-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S128x1 : Shape := ⟨2, ![128, 1]⟩
abbrev S_ : Shape := ⟨0, ![]⟩

class Facts : Prop where
  bcast_S_S320000 : S_.BroadcastsInDim S320000 (![] : Fin 0 → Fin S320000.rank)
  bcast_S_S128x1 : S_.BroadcastsInDim S128x1 (![] : Fin 0 → Fin S128x1.rank)

variable [Facts]

def fn {F : FTy → Type} [FloatOps F] (main_arg0 : FVec F S320000x128 .f32) (main_arg1 : IVec S320000 32) (main_arg2 : FVec F S128x128 .f32) (main_arg3 : FVec F S128 .f32) (main_arg4 : FVec F S128x128 .f32) (main_arg5 : FVec F S128 .f32) (main_arg6 : FVec F S128x1 .f32) : IVec S320000 1 × IVec S128x1 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 16#32
  let main_v2 : IVec S320000 32 := broadcastInDim S320000 ![] bcast_S_S320000 main_c_0
  let main_v3 : IVec S320000 1 := cmpi .slt main_arg1 main_v2
  let main_v4 : IVec S320000 1 := andi main_v1 main_v3
  let main_v5 : FVec F S128x1 .f32 := Host.absf main_arg6
  let main_cst : FVec F S_ .f32 := constant S_ .f32 0x7F800000#32
  let main_v6 : FVec F S128x1 .f32 := broadcastInDim S128x1 ![] bcast_S_S128x1 main_cst
  let main_v7 : IVec S128x1 1 := cmpf .olt main_v5 main_v6
  (main_v4, main_v7)
-- ==== Kernel.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S128x1 : Shape := ⟨2, ![128, 1]⟩
abbrev S20x125x128 : Shape := ⟨3, ![20, 125, 128]⟩
abbrev S2500x128 : Shape := ⟨2, ![2500, 128]⟩
abbrev S_ : Shape := ⟨0, ![]⟩
abbrev S1x1 : Shape := ⟨2, ![1, 1]⟩
abbrev S128x256 : Shape := ⟨2, ![128, 256]⟩
abbrev S256 : Shape := ⟨1, ![256]⟩
abbrev S1x256 : Shape := ⟨2, ![1, 256]⟩
abbrev S16x128 : Shape := ⟨2, ![16, 128]⟩
abbrev S16x1 : Shape := ⟨2, ![16, 1]⟩
abbrev S320000x1 : Shape := ⟨2, ![320000, 1]⟩
abbrev S16000x128 : Shape := ⟨2, ![16000, 128]⟩
abbrev S1x125x128 : Shape := ⟨3, ![1, 125, 128]⟩
abbrev S1x128 : Shape := ⟨2, ![1, 128]⟩
abbrev S1x16000 : Shape := ⟨2, ![1, 16000]⟩
abbrev S16x16000 : Shape := ⟨2, ![16, 16000]⟩
abbrev S16 : Shape := ⟨1, ![16]⟩

abbrev nBuf : Space → Nat
  | .hbm => 31
  | .vmem => 17
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S20x125x128, .i32⟩
  | .hbm, ⟨8, _⟩ => ⟨S2500x128, .i32⟩
  | .hbm, ⟨9, _⟩ => ⟨S128x1, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S128x256, .f32⟩
  | .hbm, ⟨17, _⟩ => ⟨S128x256, .bf16⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S256, .f32⟩
  | .hbm, ⟨22, _⟩ => ⟨S1x256, .f32⟩
  | .hbm, ⟨23, _⟩ => ⟨S1x256, .bf16⟩
  | .hbm, ⟨24, _⟩ => ⟨S128x1, .bf16⟩
  | .hbm, ⟨25, _⟩ => ⟨S20x125x128, .f32⟩
  | .hbm, ⟨26, _⟩ => ⟨S16x128, .f32⟩
  | .hbm, ⟨27, _⟩ => ⟨S16x1, .f32⟩
  | .hbm, ⟨28, _⟩ => ⟨S2500x128, .f32⟩
  | .hbm, ⟨29, _⟩ => ⟨S2500x128, .f32⟩
  | .hbm, ⟨30, _⟩ => ⟨S320000x1, .f32⟩
  | .local _ .vmem, ⟨0, _⟩ => ⟨S16000x128, .f32⟩
  | .local _ .vmem, ⟨1, _⟩ => ⟨S16000x128, .f32⟩
  | .local _ .vmem, ⟨2, _⟩ => ⟨S1x125x128, .i32⟩
  | .local _ .vmem, ⟨3, _⟩ => ⟨S1x125x128, .i32⟩
  | .local _ .vmem, ⟨4, _⟩ => ⟨S128x256, .bf16⟩
  | .local _ .vmem, ⟨5, _⟩ => ⟨S1x256, .bf16⟩
  | .local _ .vmem, ⟨6, _⟩ => ⟨S128x1, .bf16⟩
  | .local _ .vmem, ⟨7, _⟩ => ⟨S1x1, .f32⟩
  | .local _ .vmem, ⟨8, _⟩ => ⟨S1x125x128, .f32⟩
  | .local _ .vmem, ⟨9, _⟩ => ⟨S1x125x128, .f32⟩
  | .local _ .vmem, ⟨10, _⟩ => ⟨S16x128, .f32⟩
  | .local _ .vmem, ⟨11, _⟩ => ⟨S16x1, .f32⟩
  | .local _ .vmem, ⟨12, _⟩ => ⟨S2500x128, .f32⟩
  | .local _ .vmem, ⟨13, _⟩ => ⟨S2500x128, .i32⟩
  | .local _ .vmem, ⟨14, _⟩ => ⟨S16x1, .f32⟩
  | .local _ .vmem, ⟨15, _⟩ => ⟨S1x1, .f32⟩
  | .local _ .vmem, ⟨16, _⟩ => ⟨S2500x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_cst_1 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15_0 : Ref sig .tc := ⟨.hbm, 25, rfl⟩
abbrev main_v0_0 : Ref sig .tc := ⟨.hbm, 26, rfl⟩
abbrev main_call0_v15_2 : Ref sig .tc := ⟨.hbm, 27, rfl⟩
abbrev main_call0_v16 : Ref sig .tc := ⟨.hbm, 28, rfl⟩
abbrev main_call0_v17 : Ref sig .tc := ⟨.hbm, 29, rfl⟩
abbrev main_v0_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x125x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x125x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := .none

abbrev stage1_0 : Fin 1 → Memref sig .tc .vmem S2500x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2500x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2500x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S_ : Shape := ⟨0, ![]⟩
abbrev S320000x1 : Shape := ⟨2, ![320000, 1]⟩
abbrev S16 : Shape := ⟨1, ![16]⟩
abbrev S1x16 : Shape := ⟨2, ![1, 16]⟩
abbrev S320000x16 : Shape := ⟨2, ![320000, 16]⟩
abbrev S16x128 : Shape := ⟨2, ![16, 128]⟩

abbrev nBuf : Space → Nat
  | .hbm => 73
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S320000x128, .f32⟩
  | .hbm, ⟨8, _⟩ => ⟨S1x128, .f32⟩
  | .hbm, ⟨9, _⟩ => ⟨S320000x128, .f32⟩
  | .hbm, ⟨10, _⟩ => ⟨S320000x128, .f32⟩
  | .hbm, ⟨11, _⟩ => ⟨S320000x128, .f32⟩
  | .hbm, ⟨12, _⟩ => ⟨S320000x128, .f32⟩
  | .hbm, ⟨13, _⟩ => ⟨S1x128, .f32⟩
  | .hbm, ⟨14, _⟩ => ⟨S320000x128, .f32⟩
  | .hbm, ⟨15, _⟩ => ⟨S320000x128, .f32⟩
  | .hbm, ⟨16, _⟩ => ⟨S320000x128, .f32⟩
  | .hbm, ⟨17, _⟩ => ⟨S320000x128, .f32⟩
  | .hbm, ⟨18, _⟩ => ⟨S_, .f32⟩
  | .hbm, ⟨19, _⟩ => ⟨S320000x128, .f32⟩
  | .hbm, ⟨20, _⟩ => ⟨S320000x128, .f32⟩
  | .hbm, ⟨21, _⟩ => ⟨S_, .f32⟩
  | .hbm, ⟨22, _⟩ => ⟨S320000x128, .f32⟩
  | .hbm, ⟨23, _⟩ => ⟨S320000x128, .f32⟩
  | .hbm, ⟨24, _⟩ => ⟨S320000x128, .f32⟩
  | .hbm, ⟨25, _⟩ => ⟨S320000x1, .f32⟩
  | .hbm, ⟨26, _⟩ => ⟨S320000, .f32⟩
  | .hbm, ⟨27, _⟩ => ⟨S16, .i32⟩
  | .hbm, ⟨28, _⟩ => ⟨S320000x1, .i32⟩
  | .hbm, ⟨29, _⟩ => ⟨S1x16, .i32⟩
  | .hbm, ⟨30, _⟩ => ⟨S320000x16, .i32⟩
  | .hbm, ⟨31, _⟩ => ⟨S320000x16, .i32⟩
  | .hbm, ⟨32, _⟩ => ⟨S320000x16, .i1⟩
  | .hbm, ⟨33, _⟩ => ⟨S320000x1, .f32⟩
  | .hbm, ⟨34, _⟩ => ⟨S_, .f32⟩
  | .hbm, ⟨35, _⟩ => ⟨S_, .f32⟩
  | .hbm, ⟨36, _⟩ => ⟨S320000x16, .f32⟩
  | .hbm, ⟨37, _⟩ => ⟨S320000x16, .f32⟩
  | .hbm, ⟨38, _⟩ => ⟨S320000x16, .f32⟩
  | .hbm, ⟨39, _⟩ => ⟨S_, .f32⟩
  | .hbm, ⟨40, _⟩ => ⟨S16, .f32⟩
  | .hbm, ⟨41, _⟩ => ⟨S_, .i32⟩
  | .hbm, ⟨42, _⟩ => ⟨S320000, .i32⟩
  | .hbm, ⟨43, _⟩ => ⟨S320000, .i1⟩
  | .hbm, ⟨44, _⟩ => ⟨S_, .i32⟩
  | .hbm, ⟨45, _⟩ => ⟨S320000, .i32⟩
  | .hbm, ⟨46, _⟩ => ⟨S320000, .i32⟩
  | .hbm, ⟨47, _⟩ => ⟨S320000, .i32⟩
  | .hbm, ⟨48, _⟩ => ⟨S320000x1, .i32⟩
  | .hbm, ⟨49, _⟩ => ⟨S320000, .f32⟩
  | .hbm, ⟨50, _⟩ => ⟨S320000, .f32⟩
  | .hbm, ⟨51, _⟩ => ⟨S320000, .f32⟩
  | .hbm, ⟨52, _⟩ => ⟨S_, .f32⟩
  | .hbm, ⟨53, _⟩ => ⟨S16, .f32⟩
  | .hbm, ⟨54, _⟩ => ⟨S320000x1, .i32⟩
  | .hbm, ⟨55, _⟩ => ⟨S16, .f32⟩
  | .hbm, ⟨56, _⟩ => ⟨S_, .i32⟩
  | .hbm, ⟨57, _⟩ => ⟨S320000, .i32⟩
  | .hbm, ⟨58, _⟩ => ⟨S320000, .i1⟩
  | .hbm, ⟨59, _⟩ => ⟨S_, .i32⟩
  | .hbm, ⟨60, _⟩ => ⟨S320000, .i32⟩
  | .hbm, ⟨61, _⟩ => ⟨S320000, .i32⟩
  | .hbm, ⟨62, _⟩ => ⟨S320000, .i32⟩
  | .hbm, ⟨63, _⟩ => ⟨S320000x1, .i32⟩
  | .hbm, ⟨64, _⟩ => ⟨S320000, .f32⟩
  | .hbm, ⟨65, _⟩ => ⟨S320000, .f32⟩
  | .hbm, ⟨66, _⟩ => ⟨S320000x1, .f32⟩
  | .hbm, ⟨67, _⟩ => ⟨S320000x128, .f32⟩
  | .hbm, ⟨68, _⟩ => ⟨S320000x128, .f32⟩
  | .hbm, ⟨69, _⟩ => ⟨S_, .f32⟩
  | .hbm, ⟨70, _⟩ => ⟨S16x128, .f32⟩
  | .hbm, ⟨71, _⟩ => ⟨S320000x1, .i32⟩
  | .hbm, ⟨72, _⟩ => ⟨S16x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.KRun.lean ====
module

public import proofs.«01_k».proof.Proof.Gen.KernelIdeal.Frame

@[expose] public section

set_option maxRecDepth 16384

noncomputable section

/-! The pooling program's run, with its two results: every execution ends with each result array at what the last
    segment boundary's contents `W5` say of it, and the arguments as launched. -/

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the pooling program terminates with both result arrays at the last boundary's contents and
    the seven arguments unchanged. -/
theorem run : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v0_0 (by decide)), h c _ (mem_uc main_v0_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Results
-- ==== Proof.Math.lean ====
module

public import Idealize.ShloMosaic.PureOps
public import Idealize.ShloMosaic.PureOps.Ideal
public import Mathlib.Analysis.SpecialFunctions.Trigonometric.DerivHyp

@[expose] public section

noncomputable section

/-! The mathematics of gated attention pooling over the extended reals: the gate computed with a hyperbolic tangent of
    half the argument is the logistic function; scores are real numbers; and a segment softmax shifted by one bound for
    all segments equals the segment softmax shifted by each segment's maximum. -/

namespace Cert.PoolMath

open Idealize.ShloMosaic
open scoped BigOperators

/-- One half, as an extended real. -/
abbrev half : EReal := ((1 / 2 : ℝ) : EReal)

/-! ## The gate -/

/-- The logistic function by division, as the reference writes it. -/
def gate (z : EReal) : EReal := Ideal.div 1 (1 + Ideal.exp (-z))

/-- Over the reals, half the hyperbolic tangent of half the argument, plus a half, is the logistic function. -/
theorem half_tanh_real (r : ℝ) : 1 / 2 * Real.tanh (1 / 2 * r) + 1 / 2 = 1 / (1 + Real.exp (-r)) := by
  rw [Real.tanh_eq_sinh_div_cosh, Real.sinh_eq, Real.cosh_eq]
  have hs : Real.exp (1 / 2 * r) * Real.exp (-(1 / 2 * r)) = 1 := by rw [← Real.exp_add]; simp
  have hr : Real.exp (-r) = Real.exp (-(1 / 2 * r)) * Real.exp (-(1 / 2 * r)) := by rw [← Real.exp_add]; congr 1; ring
  rw [hr]
  set u := Real.exp (1 / 2 * r) with hu
  set v := Real.exp (-(1 / 2 * r)) with hv
  have hup : 0 < u := Real.exp_pos _
  have hvp : 0 < v := Real.exp_pos _
  have h1 : (u + v) / 2 ≠ 0 := by positivity
  have h2 : 1 + v * v ≠ 0 := by positivity
  field_simp
  linear_combination (2 * v) * hs

/-- The kernel's gate is the logistic function at every extended real. -/
theorem half_tanh (z : EReal) : half * Ideal.tanh (half * z) + half = gate z := by
  unfold gate
  induction z with
  | bot =>
    rw [EReal.coe_mul_bot_of_pos (by norm_num), Ideal.tanh_bot, EReal.neg_bot, Ideal.exp_top,
      EReal.add_top_of_ne_bot (by decide), Ideal.div, if_neg (by decide), EReal.inv_top, mul_zero,
      show (-1 : EReal) = ((-1 : ℝ) : EReal) by norm_num, ← EReal.coe_mul, ← EReal.coe_add]
    norm_num
  | top =>
    rw [EReal.coe_mul_top_of_pos (by norm_num), Ideal.tanh_top, EReal.neg_top, Ideal.exp_bot, add_zero, mul_one,
      ← EReal.coe_add, ← EReal.coe_one, Ideal.div_coe one_ne_zero, ← EReal.coe_mul]
    norm_num
  | coe r =>
    rw [← EReal.coe_mul, Ideal.tanh_coe, ← EReal.coe_mul, ← EReal.coe_add, half_tanh_real, ← EReal.coe_neg, Ideal.exp_coe,
      ← EReal.coe_one, ← EReal.coe_add, Ideal.div_coe (by positivity), ← EReal.coe_mul]
    norm_num

/-- The hyperbolic tangent is a real number at every extended real. -/
theorem tanh_real (z : EReal) : ∃ r : ℝ, Ideal.tanh z = (r : EReal) := by
  induction z with
  | bot => exact ⟨-1, by rw [Ideal.tanh_bot]; norm_num⟩
  | top => exact ⟨1, by rw [Ideal.tanh_top]; norm_num⟩
  | coe r => exact ⟨_, Ideal.tanh_coe r⟩

/-- The gate is a real number at every extended real. -/
theorem gate_real (z : EReal) : ∃ r : ℝ, gate z = (r : EReal) := by
  obtain ⟨r, hr⟩ := tanh_real (half * z)
  exact ⟨1 / 2 * r + 1 / 2, by rw [← half_tanh, hr, ← EReal.coe_mul, ← EReal.coe_add]⟩

/-! ## Finite sums -/

/-- A finite sum of real numbers, as extended reals, is their real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor moves into a finite sum of extended reals. -/
theorem mul_sum {ι : Type*} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- Halving the weights and the bias halves the affine map. -/
theorem half_affine {ι : Type*} (s : Finset ι) (x w : ι → EReal) (b : EReal) :
    ∑ i ∈ s, x i * (half * w i) + half * b = half * (∑ i ∈ s, x i * w i + b) := by
  rw [EReal.left_distrib_of_nonneg_of_ne_top (by norm_num) (EReal.coe_ne_top _), mul_sum s (by norm_num)]
  congr 1
  refine Finset.sum_congr rfl fun i _ => ?_
  rw [← mul_assoc, ← mul_assoc, mul_comm (x i)]

/-! ## The score of a row -/

/-- The attention score of a row `x`: the gated features weighted by `wa` and summed. -/
def rowScore (x : Fin 128 → EReal) (wv : Fin 128 → Fin 128 → EReal) (bv : Fin 128 → EReal)
    (wu : Fin 128 → Fin 128 → EReal) (bu wa : Fin 128 → EReal) : EReal :=
  ∑ j, Ideal.tanh (∑ k, x k * wv k j + bv j) * gate (∑ k, x k * wu k j + bu j) * wa j

/-- The score computed with halved gate weights and the hyperbolic tangent is the score. -/
theorem halved_score (x : Fin 128 → EReal) (wv : Fin 128 → Fin 128 → EReal) (bv : Fin 128 → EReal)
    (wu : Fin 128 → Fin 128 → EReal) (bu wa : Fin 128 → EReal) :
    ∑ j, wa j * (Ideal.tanh (∑ k, x k * wv k j + bv j) * (half * Ideal.tanh (∑ k, x k * (half * wu k j) + half * bu j) + half))
      = rowScore x wv bv wu bu wa := by
  unfold rowScore
  refine Finset.sum_congr rfl fun j _ => ?_
  rw [half_affine, half_tanh, mul_comm]

/-- A score is a real number when the weights `wa` are, whatever the row and the gate weights hold. -/
theorem rowScore_real (x : Fin 128 → EReal) (wv : Fin 128 → Fin 128 → EReal) (bv : Fin 128 → EReal)
    (wu : Fin 128 → Fin 128 → EReal) (bu wa : Fin 128 → EReal) (h : ∀ j, ∃ r : ℝ, wa j = r) :
    ∃ r : ℝ, rowScore x wv bv wu bu wa = r := by
  have ht : ∀ j, ∃ r : ℝ, Ideal.tanh (∑ k, x k * wv k j + bv j) * gate (∑ k, x k * wu k j + bu j) * wa j = (r : EReal) := by
    intro j
    obtain ⟨a, ha⟩ := tanh_real (∑ k, x k * wv k j + bv j)
    obtain ⟨b, hb⟩ := gate_real (∑ k, x k * wu k j + bu j)
    obtain ⟨c, hc⟩ := h j
    exact ⟨a * b * c, by rw [ha, hb, hc, EReal.coe_mul, EReal.coe_mul]⟩
  choose f hf using ht
  exact ⟨∑ j, f j, by unfold rowScore; rw [← sum_coe]; exact Finset.sum_congr rfl fun j _ => hf j⟩

/-! ## The segment softmax -/

section Softmax
variable {ι κ : Type} [Fintype ι] [DecidableEq κ] (seg : ι → κ) (A : ι → EReal) (W : EReal)

/-- A row's weight in segment `k`, shifted by `W`: zero outside the segment. -/
def wt (k : κ) (i : ι) : EReal := if seg i = k then Ideal.exp (A i - W) else 0
/-- The weight sum of a segment, shifted by `W`. -/
def kden (k : κ) : EReal := ∑ i, wt seg A W k i
/-- One over the weight sum, or zero for an empty segment. -/
def kinv (k : κ) : EReal := if 0 < kden seg A W k then Ideal.div 1 (kden seg A W k) else 0
/-- A row's attention weight, shifted by `W`. -/
def kattn (i : ι) : EReal := Ideal.exp (A i - W) * Ideal.div 1 (kden seg A W (seg i))
/-- A segment's pooled entry, shifted by `W`. -/
def kpool (X : ι → EReal) (k : κ) : EReal := (∑ i, wt seg A W k i * X i) * kinv seg A W k

/-- The largest score of a segment. -/
def rmax (k : κ) : EReal := Finset.univ.sup fun i => if seg i = k then A i else ⊥
/-- A row's weight shifted by its segment's largest score. -/
def rexp (i : ι) : EReal := Ideal.exp (A i - rmax seg A (seg i))
/-- The weight sum of a segment. -/
def rden (k : κ) : EReal := ∑ i ∈ Finset.univ.filter (fun i => seg i = k), rexp seg A i
/-- A row's attention weight. -/
def rattn (i : ι) : EReal := Ideal.div (rexp seg A i) (rden seg A (seg i))
/-- A segment's pooled entry. -/
def rpool (X : ι → EReal) (k : κ) : EReal := ∑ i ∈ Finset.univ.filter (fun i => seg i = k), rattn seg A i * X i

variable (a : ι → ℝ) (w : ℝ) (hA : ∀ i, A i = (a i : EReal)) (hW : W = (w : EReal))
include hA

/-- The largest score of a segment that has a row is a real number. -/
theorem rmax_real (i : ι) : rmax seg A (seg i) = ((rmax seg A (seg i)).toReal : EReal) := by
  refine (EReal.coe_toReal (ne_of_lt ?_) (ne_of_gt ?_)).symm
  · refine (Finset.sup_lt_iff (by simp)).mpr fun j _ => ?_
    split
    · rw [hA]; exact EReal.coe_lt_top _
    · exact bot_lt_top
  · have h := Finset.le_sup (f := fun j => if seg j = seg i then A j else ⊥) (Finset.mem_univ i)
    simp only [if_true] at h
    exact lt_of_lt_of_le (by rw [hA]; exact EReal.bot_lt_coe _) h

/-- A row's shifted weight is a real exponential. -/
theorem rexp_coe (i : ι) : rexp seg A i = ((Real.exp (a i - (rmax seg A (seg i)).toReal) : ℝ) : EReal) := by
  unfold rexp
  rw [rmax_real seg A a hA i, hA, ← EReal.coe_sub, Ideal.exp_coe, EReal.toReal_coe]

/-- The weight sum of a segment is a real sum of exponentials. -/
theorem rden_coe (k : κ) : rden seg A k
    = ((∑ i ∈ Finset.univ.filter (fun i => seg i = k), Real.exp (a i - (rmax seg A k).toReal) : ℝ) : EReal) := by
  unfold rden
  rw [← sum_coe]
  refine Finset.sum_congr rfl fun i hi => ?_
  rw [rexp_coe seg A a hA, (Finset.mem_filter.mp hi).2]

include hW

/-- The weight sum shifted by `W` is the weight sum shifted by the maximum, times a positive factor. -/
theorem kden_coe (k : κ) : kden seg A W k
    = ((Real.exp ((rmax seg A k).toReal - w) * ∑ i ∈ Finset.univ.filter (fun i => seg i = k), Real.exp (a i - (rmax seg A k).toReal) : ℝ) : EReal) := by
  unfold kden wt
  rw [← Finset.sum_filter, Finset.mul_sum, ← sum_coe]
  refine Finset.sum_congr rfl fun i _ => ?_
  rw [hA, hW, ← EReal.coe_sub, Ideal.exp_coe, ← Real.exp_add]
  congr 2; ring

/-- The two attention weights of a row are equal. -/
theorem attn_eq (i : ι) : kattn seg A W i = rattn seg A i := by
  unfold kattn rattn
  rw [kden_coe seg A W a w hA hW, rden_coe seg A a hA, rexp_coe seg A a hA, hA, hW, ← EReal.coe_sub, Ideal.exp_coe]
  have hp : 0 < ∑ j ∈ Finset.univ.filter (fun j => seg j = seg i), Real.exp (a j - (rmax seg A (seg i)).toReal) :=
    Finset.sum_pos (fun j _ => Real.exp_pos _) ⟨i, Finset.mem_filter.mpr ⟨Finset.mem_univ _, rfl⟩⟩
  set R := ∑ j ∈ Finset.univ.filter (fun j => seg j = seg i), Real.exp (a j - (rmax seg A (seg i)).toReal) with hR
  have hc := Real.exp_pos ((rmax seg A (seg i)).toReal - w)
  rw [Ideal.div_coe (ne_of_gt (mul_pos hc hp)), Ideal.div_coe (ne_of_gt hp), one_mul, ← EReal.coe_mul, ← EReal.coe_mul]
  congr 1
  have he : Real.exp (a i - w) = Real.exp (a i - (rmax seg A (seg i)).toReal) * Real.exp ((rmax seg A (seg i)).toReal - w) := by
    rw [← Real.exp_add]; congr 1; ring
  rw [he]
  field_simp

/-- The two pooled entries of a segment are equal, whatever the rows hold. -/
theorem pool_eq (X : ι → EReal) (k : κ) : kpool seg A W X k = rpool seg A X k := by
  have hk : ∃ r : ℝ, 0 ≤ r ∧ kinv seg A W k = (r : EReal) := by
    unfold kinv
    split
    · next h =>
      rw [kden_coe seg A W a w hA hW] at h ⊢
      have h' := EReal.coe_pos.mp h
      exact ⟨1 / _, by positivity, by rw [Ideal.div_coe (ne_of_gt h'), one_mul]⟩
    · exact ⟨0, le_refl _, rfl⟩
  obtain ⟨r, hr, hrk⟩ := hk
  unfold kpool rpool
  rw [hrk, mul_comm, mul_sum _ hr, Finset.sum_filter]
  refine Finset.sum_congr rfl fun i _ => ?_
  unfold wt
  split
  · next h =>
    subst h
    rw [← attn_eq seg A W a w hA hW i]
    have hpos : 0 < kden seg A W (seg i) := by
      rw [kden_coe seg A W a w hA hW, EReal.coe_pos]
      exact mul_pos (Real.exp_pos _) (Finset.sum_pos (fun j _ => Real.exp_pos _) ⟨i, Finset.mem_filter.mpr ⟨Finset.mem_univ _, rfl⟩⟩)
    unfold kattn
    rw [← hrk, kinv, if_pos hpos, ← mul_assoc, mul_comm (Ideal.div 1 _)]
  · rw [zero_mul, mul_zero]

end Softmax

end Cert.PoolMath
-- ==== Proof.PreRead.lean ====
module

public import proofs.«01_k».proof.Pre_in_range
public import proofs.«01_k».proof.Proof.Math
public import Idealize.ShloMosaic.PureOps.Ideal
public import Idealize.ShloMosaic.Lib.ValueIdx

@[expose] public section

noncomputable section

/-! What the precondition says: every batch word names one of the sixteen segments, and every attention weight is finite. -/

namespace Cert.Pre_in_range.Read

open Idealize.ShloMosaic Cert.Pre_in_range
open Idealize.ShloMosaic.ValueIdx (ix1 ix2)
open scoped BigOperators

/-- The side conditions of the precondition's two broadcasts. -/
instance facts : Cert.Pre_in_range.Facts where
  bcast_S_S320000 := by decide
  bcast_S_S128x1 := by decide

/-- A signed word that is at least zero and below sixteen is the word of one of the sixteen segments. -/
theorem word_of_range (b : BitVec 32) (h : IntOp.cmpi .sge b 0#32 &&& IntOp.cmpi .slt b 16#32 = 1#1) :
    ∃ s : Fin 16, b = BitVec.ofNat 32 s.val := by
  have h0 : (0#32 : BitVec 32).sle b = true := by
    by_contra hc
    simp [IntOp.cmpi, Bool.eq_false_iff.mpr hc] at h
  have h1 : b.slt 16#32 = true := by
    by_contra hc
    simp [IntOp.cmpi, Bool.eq_false_iff.mpr hc] at h
  rw [BitVec.sle_iff_toInt_le] at h0
  rw [BitVec.slt_iff_toInt_lt] at h1
  have e0 : (0#32 : BitVec 32).toInt = 0 := by decide
  have e1 : (16#32 : BitVec 32).toInt = 16 := by decide
  rw [e0] at h0
  rw [e1] at h1
  refine ⟨⟨b.toInt.toNat, by omega⟩, BitVec.eq_of_toInt_eq ?_⟩
  have hn : ((b.toInt.toNat : ℕ) : Int) = b.toInt := Int.toNat_of_nonneg h0
  rw [BitVec.toInt_ofNat', Int.bmod_eq_of_le (by omega) (by omega)]
  exact hn.symm

/-- The f32 word of plus infinity reads as plus infinity. -/
theorem lit_top : Ideal.ofBits .f32 0x7F800000#32 = (⊤ : EReal) := by
  simp [Ideal.ofBits, Ideal.ieee, -EReal.coe_mul]

/-- An extended real whose absolute value is below plus infinity is a real. -/
theorem real_of_abs (x : EReal) (h : Ideal.cmp .olt (max x (-x)) (⊤ : EReal) = 1#1) : ∃ r : ℝ, x = r := by
  induction x using EReal.rec with
  | bot => simp [Ideal.cmp] at h
  | coe r => exact ⟨r, rfl⟩
  | top => simp [Ideal.cmp] at h

variable (x0 : FVec Ideal S320000x128 .f32) (x1 : IVec S320000 32) (x2 : FVec Ideal S128x128 .f32) (x3 : FVec Ideal S128 .f32)
  (x4 : FVec Ideal S128x128 .f32) (x5 : FVec Ideal S128 .f32) (x6 : FVec Ideal S128x1 .f32)

/-- Under the precondition every batch word names a segment. -/
theorem batch_word (h : (fn (F := Ideal) x0 x1 x2 x3 x4 x5 x6).1 = fun _ => 1#1) (i : Fin 320000) :
    ∃ s : Fin 16, x1 (ix1 i) = BitVec.ofNat 32 s.val :=
  word_of_range _ (congrFun h (ix1 i))

/-- Under the precondition every attention weight is a real. -/
theorem weight_real (h : (fn (F := Ideal) x0 x1 x2 x3 x4 x5 x6).2 = fun _ => 1#1) (j : Fin 128) :
    ∃ r : ℝ, (x6 (ix2 j 0) : EReal) = r := by
  refine real_of_abs _ ?_
  rw [← lit_top]
  exact congrFun h (ix2 j 0)

end Cert.Pre_in_range.Read

end
-- ==== Proof.KBlocks.lean ====
module

public import proofs.«01_k».proof.Proof.Gen.KernelIdeal.Frame
public import Idealize.ShloMosaic.Lib.Pipeline.Value

@[expose] public section

set_option maxRecDepth 16384

noncomputable section

/-! What one grid point of the first pass leaves in its three output blocks, as functions of the blocks it reads: the
    scores of its 16000 rows, the running weighted row sums of the 16 segments, and the running weight sums. -/

namespace Cert.KernelIdeal.Blocks

open Cert.KernelIdeal Cert.KernelIdeal.Gen
open Idealize.ShloMosaic Idealize.ShloMosaic.TcCoe

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The left half of the joined weight matrix. -/
abbrev wLeft : Rect S128x256 := Rect.unit (s := S128x256) ![0, 0] S128x128.size inb_S128x256_S128x128_0_0
/-- The right half of the joined weight matrix. -/
abbrev wRight : Rect S128x256 := Rect.unit (s := S128x256) ![0, 128] S128x128.size inb_S128x256_S128x128_0_128
/-- The left half of the joined bias row. -/
abbrev bLeft : Rect S1x256 := Rect.unit (s := S1x256) ![0, 0] S1x128.size inb_S1x256_S1x128_0_0
/-- The right half of the joined bias row. -/
abbrev bRight : Rect S1x256 := Rect.unit (s := S1x256) ![0, 128] S1x128.size inb_S1x256_S1x128_0_128

/-- The attention scores of a block of 16000 rows, as one row. -/
def score (x0 : Vec F S16000x128 .f32) (x2 : Vec F S128x256 .bf16) (x3 : Vec F S1x256 .bf16) (x4 : Vec F S128x1 .bf16) :
    FVec F S1x16000 .f32 :=
  k0_pay8 x0 (View.ld x2 wLeft) (View.ld x2 wRight) (View.ld x3 bLeft) (View.ld x3 bRight) x4
/-- The same scores in the layout the block is stored in. -/
def scoreBlk (x0 : Vec F S16000x128 .f32) (x2 : Vec F S128x256 .bf16) (x3 : Vec F S1x256 .bf16) (x4 : Vec F S128x1 .bf16) :
    FVec F S1x125x128 .f32 :=
  k0_pay9 x0 (View.ld x2 wLeft) (View.ld x2 wRight) (View.ld x3 bLeft) (View.ld x3 bRight) x4
/-- The weighted row sums after one block, from those before it. -/
def sums (x0 : Vec F S16000x128 .f32) (x1 : Vec F S1x125x128 .i32) (x2 : Vec F S128x256 .bf16) (x3 : Vec F S1x256 .bf16)
    (x4 : Vec F S128x1 .bf16) (x5 : Vec F S1x1 .f32) (s : Vec F S16x128 .f32) : Vec F S16x128 .f32 :=
  k0_pay2 (k0_pay7 x0) (score x0 x2 x3 x4) x5 x1 s
/-- The weight sums after one block, from those before it. -/
def dens (x0 : Vec F S16000x128 .f32) (x1 : Vec F S1x125x128 .i32) (x2 : Vec F S128x256 .bf16) (x3 : Vec F S1x256 .bf16)
    (x4 : Vec F S128x1 .bf16) (x5 : Vec F S1x1 .f32) (d : Vec F S16x1 .f32) : Vec F S16x1 .f32 :=
  k0_pay3 (score x0 x2 x3 x4) x5 x1 d

/-- At first point the body leaves the scores of the block. -/
theorem out_A_6 (c : Dev nD) (i : grid0.Coords) (a1 : Memref sig .tc .vmem S16000x128 .f32) (h1 : a1.IsWhole) (a2 : Memref sig .tc .vmem S1x125x128 .i32) (h2 : a2.IsWhole) (a3 : Memref sig .tc .vmem S128x256 .bf16) (h3 : a3.IsWhole) (a4 : Memref sig .tc .vmem S1x256 .bf16) (h4 : a4.IsWhole) (a5 : Memref sig .tc .vmem S128x1 .bf16) (h5 : a5.IsWhole) (a6 : Memref sig .tc .vmem S1x1 .f32) (h6 : a6.IsWhole) (a7 : Memref sig .tc .vmem S1x125x128 .f32) (h7 : a7.IsWhole) (a8 : Memref sig .tc .vmem S16x128 .f32) (h8 : a8.IsWhole) (a9 : Memref sig .tc .vmem S16x1 .f32) (h9 : a9.IsWhole) (hc0 : cond0_0 i) (hc1 : ¬cond0_1 i)
    (x0 : Vec F S16000x128 .f32) (x1 : Vec F S1x125x128 .i32) (x2 : Vec F S128x256 .bf16) (x3 : Vec F S1x256 .bf16) (x4 : Vec F S128x1 .bf16) (x5 : Vec F S1x1 .f32) :
    out0_A_6 c i a1 h1 a2 h2 a3 h3 a4 h4 a5 h5 a6 h6 a7 h7 a8 h8 a9 h9 hc0 hc1 x0 x1 x2 x3 x4 x5 = scoreBlk x0 x2 x3 x4 := by
  unfold out0_A_6
  rw [View.read_writes_eq_canon _ _ _ (cover0_A_6 c i a1 h1 a2 h2 a3 h3 a4 h4 a5 h5 a6 h6 a7 h7 a8 h8 a9 h9 hc0 hc1 x0 x1 x2 x3 x4 x5)]
  unfold kernelRun0_A
  dsimp only
  sl_unfold_words
  rw [View.canon_unit_zero hz3]
  unfold scoreBlk
  simp only [View.readCov_unit_zero (S := S16x128) _ hz2, View.readCov_unit_zero (S := S16x1) _ hz2, View.readAt_eq_ld, h1.read_unread, h2.read_unread, h3.read_unread, h4.read_unread, h5.read_unread, h6.read_unread, h8.read_unread, h9.read_unread, View.ld_unit_zero (S := S16000x128) hz2, View.ld_unit_zero (S := S1x125x128) hz3, View.ld_unit_zero (S := S128x1) hz2, View.ld_unit_zero (S := S1x1) hz2, View.ld_unit_zero (S := S16x128) hz2, View.ld_unit_zero (S := S16x1) hz2]

/-- At first point the body leaves the weighted row sums. -/
theorem out_A_7 (c : Dev nD) (i : grid0.Coords) (a1 : Memref sig .tc .vmem S16000x128 .f32) (h1 : a1.IsWhole) (a2 : Memref sig .tc .vmem S1x125x128 .i32) (h2 : a2.IsWhole) (a3 : Memref sig .tc .vmem S128x256 .bf16) (h3 : a3.IsWhole) (a4 : Memref sig .tc .vmem S1x256 .bf16) (h4 : a4.IsWhole) (a5 : Memref sig .tc .vmem S128x1 .bf16) (h5 : a5.IsWhole) (a6 : Memref sig .tc .vmem S1x1 .f32) (h6 : a6.IsWhole) (a7 : Memref sig .tc .vmem S1x125x128 .f32) (h7 : a7.IsWhole) (a8 : Memref sig .tc .vmem S16x128 .f32) (h8 : a8.IsWhole) (a9 : Memref sig .tc .vmem S16x1 .f32) (h9 : a9.IsWhole) (hc0 : cond0_0 i) (hc1 : ¬cond0_1 i)
    (x0 : Vec F S16000x128 .f32) (x1 : Vec F S1x125x128 .i32) (x2 : Vec F S128x256 .bf16) (x3 : Vec F S1x256 .bf16) (x4 : Vec F S128x1 .bf16) (x5 : Vec F S1x1 .f32) :
    out0_A_7 c i a1 h1 a2 h2 a3 h3 a4 h4 a5 h5 a6 h6 a7 h7 a8 h8 a9 h9 hc0 hc1 x0 x1 x2 x3 x4 x5 = sums x0 x1 x2 x3 x4 x5 (k0_pay5 (F := F)) := by
  unfold out0_A_7
  rw [View.read_writes_eq_canon _ _ _ (cover0_A_7 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S16x128) hz2]
  unfold sums score
  simp only [View.readCov_unit_zero (S := S16x128) _ hz2, View.readCov_unit_zero (S := S16x1) _ hz2, View.readAt_eq_ld, h1.read_unread, h2.read_unread, h3.read_unread, h4.read_unread, h5.read_unread, h6.read_unread, h8.read_unread, h9.read_unread, View.ld_unit_zero (S := S16000x128) hz2, View.ld_unit_zero (S := S1x125x128) hz3, View.ld_unit_zero (S := S128x1) hz2, View.ld_unit_zero (S := S1x1) hz2, View.ld_unit_zero (S := S16x128) hz2, View.ld_unit_zero (S := S16x1) hz2]

/-- At first point the body leaves the weight sums. -/
theorem out_A_8 (c : Dev nD) (i : grid0.Coords) (a1 : Memref sig .tc .vmem S16000x128 .f32) (h1 : a1.IsWhole) (a2 : Memref sig .tc .vmem S1x125x128 .i32) (h2 : a2.IsWhole) (a3 : Memref sig .tc .vmem S128x256 .bf16) (h3 : a3.IsWhole) (a4 : Memref sig .tc .vmem S1x256 .bf16) (h4 : a4.IsWhole) (a5 : Memref sig .tc .vmem S128x1 .bf16) (h5 : a5.IsWhole) (a6 : Memref sig .tc .vmem S1x1 .f32) (h6 : a6.IsWhole) (a7 : Memref sig .tc .vmem S1x125x128 .f32) (h7 : a7.IsWhole) (a8 : Memref sig .tc .vmem S16x128 .f32) (h8 : a8.IsWhole) (a9 : Memref sig .tc .vmem S16x1 .f32) (h9 : a9.IsWhole) (hc0 : cond0_0 i) (hc1 : ¬cond0_1 i)
    (x0 : Vec F S16000x128 .f32) (x1 : Vec F S1x125x128 .i32) (x2 : Vec F S128x256 .bf16) (x3 : Vec F S1x256 .bf16) (x4 : Vec F S128x1 .bf16) (x5 : Vec F S1x1 .f32) :
    out0_A_8 c i a1 h1 a2 h2 a3 h3 a4 h4 a5 h5 a6 h6 a7 h7 a8 h8 a9 h9 hc0 hc1 x0 x1 x2 x3 x4 x5 = dens x0 x1 x2 x3 x4 x5 (k0_pay6 (F := F)) := by
  unfold out0_A_8
  rw [View.read_writes_eq_canon _ _ _ (cover0_A_8 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S16x1) hz2]
  unfold dens score
  simp only [View.readCov_unit_zero (S := S16x128) _ hz2, View.readCov_unit_zero (S := S16x1) _ hz2, View.readAt_eq_ld, h1.read_unread, h2.read_unread, h3.read_unread, h4.read_unread, h5.read_unread, h6.read_unread, h8.read_unread, h9.read_unread, View.ld_unit_zero (S := S16000x128) hz2, View.ld_unit_zero (S := S1x125x128) hz3, View.ld_unit_zero (S := S128x1) hz2, View.ld_unit_zero (S := S1x1) hz2, View.ld_unit_zero (S := S16x128) hz2, View.ld_unit_zero (S := S16x1) hz2]

/-- At a middle point the body leaves the scores of the block. -/
theorem out_B_6 (c : Dev nD) (i : grid0.Coords) (a1 : Memref sig .tc .vmem S16000x128 .f32) (h1 : a1.IsWhole) (a2 : Memref sig .tc .vmem S1x125x128 .i32) (h2 : a2.IsWhole) (a3 : Memref sig .tc .vmem S128x256 .bf16) (h3 : a3.IsWhole) (a4 : Memref sig .tc .vmem S1x256 .bf16) (h4 : a4.IsWhole) (a5 : Memref sig .tc .vmem S128x1 .bf16) (h5 : a5.IsWhole) (a6 : Memref sig .tc .vmem S1x1 .f32) (h6 : a6.IsWhole) (a7 : Memref sig .tc .vmem S1x125x128 .f32) (h7 : a7.IsWhole) (a8 : Memref sig .tc .vmem S16x128 .f32) (h8 : a8.IsWhole) (a9 : Memref sig .tc .vmem S16x1 .f32) (h9 : a9.IsWhole) (hc0 : ¬cond0_0 i) (hc1 : ¬cond0_1 i)
    (x0 : Vec F S16000x128 .f32) (x1 : Vec F S1x125x128 .i32) (x2 : Vec F S128x256 .bf16) (x3 : Vec F S1x256 .bf16) (x4 : Vec F S128x1 .bf16) (x5 : Vec F S1x1 .f32) (xo7 : Vec F S16x128 .f32) (xo8 : Vec F S16x1 .f32) :
    out0_B_6 c i a1 h1 a2 h2 a3 h3 a4 h4 a5 h5 a6 h6 a7 h7 a8 h8 a9 h9 hc0 hc1 x0 x1 x2 x3 x4 x5 xo7 xo8 = scoreBlk x0 x2 x3 x4 := by
  unfold out0_B_6
  rw [View.read_writes_eq_canon _ _ _ (cover0_B_6 c i a1 h1 a2 h2 a3 h3 a4 h4 a5 h5 a6 h6 a7 h7 a8 h8 a9 h9 hc0 hc1 x0 x1 x2 x3 x4 x5 xo7 xo8)]
  unfold kernelRun0_B
  dsimp only
  sl_unfold_words
  rw [View.canon_unit_zero hz3]
  unfold scoreBlk
  simp only [View.readAt_eq_ld, h1.read_unread, h2.read_unread, h3.read_unread, h4.read_unread, h5.read_unread, h6.read_unread, h8.read_unread, h9.read_unread, View.ld_unit_zero (S := S16000x128) hz2, View.ld_unit_zero (S := S1x125x128) hz3, View.ld_unit_zero (S := S128x1) hz2, View.ld_unit_zero (S := S1x1) hz2, View.ld_unit_zero (S := S16x128) hz2, View.ld_unit_zero (S := S16x1) hz2]

/-- At a middle point the body leaves the weighted row sums. -/
theorem out_B_7 (c : Dev nD) (i : grid0.Coords) (a1 : Memref sig .tc .vmem S16000x128 .f32) (h1 : a1.IsWhole) (a2 : Memref sig .tc .vmem S1x125x128 .i32) (h2 : a2.IsWhole) (a3 : Memref sig .tc .vmem S128x256 .bf16) (h3 : a3.IsWhole) (a4 : Memref sig .tc .vmem S1x256 .bf16) (h4 : a4.IsWhole) (a5 : Memref sig .tc .vmem S128x1 .bf16) (h5 : a5.IsWhole) (a6 : Memref sig .tc .vmem S1x1 .f32) (h6 : a6.IsWhole) (a7 : Memref sig .tc .vmem S1x125x128 .f32) (h7 : a7.IsWhole) (a8 : Memref sig .tc .vmem S16x128 .f32) (h8 : a8.IsWhole) (a9 : Memref sig .tc .vmem S16x1 .f32) (h9 : a9.IsWhole) (hc0 : ¬cond0_0 i) (hc1 : ¬cond0_1 i)
    (x0 : Vec F S16000x128 .f32) (x1 : Vec F S1x125x128 .i32) (x2 : Vec F S128x256 .bf16) (x3 : Vec F S1x256 .bf16) (x4 : Vec F S128x1 .bf16) (x5 : Vec F S1x1 .f32) (xo7 : Vec F S16x128 .f32) (xo8 : Vec F S16x1 .f32) :
    out0_B_7 c i a1 h1 a2 h2 a3 h3 a4 h4 a5 h5 a6 h6 a7 h7 a8 h8 a9 h9 hc0 hc1 x0 x1 x2 x3 x4 x5 xo7 xo8 = sums x0 x1 x2 x3 x4 x5 (xo7) := by
  unfold out0_B_7
  rw [View.read_writes_eq_canon _ _ _ (cover0_B_7 c i a1 h1 a2 h2 a3 h3 a4 h4 a5 h5 a6 h6 a7 h7 a8 h8 a9 h9 hc0 hc1 x0 x1 x2 x3 x4 x5 xo7 xo8)]
  unfold kernelRun0_B
  dsimp only
  sl_unfold_words
  rw [View.canon_unit_zero hz2]
  unfold sums score
  simp only [View.readAt_eq_ld, h1.read_unread, h2.read_unread, h3.read_unread, h4.read_unread, h5.read_unread, h6.read_unread, h8.read_unread, h9.read_unread, View.ld_unit_zero (S := S16000x128) hz2, View.ld_unit_zero (S := S1x125x128) hz3, View.ld_unit_zero (S := S128x1) hz2, View.ld_unit_zero (S := S1x1) hz2, View.ld_unit_zero (S := S16x128) hz2, View.ld_unit_zero (S := S16x1) hz2]

/-- At a middle point the body leaves the weight sums. -/
theorem out_B_8 (c : Dev nD) (i : grid0.Coords) (a1 : Memref sig .tc .vmem S16000x128 .f32) (h1 : a1.IsWhole) (a2 : Memref sig .tc .vmem S1x125x128 .i32) (h2 : a2.IsWhole) (a3 : Memref sig .tc .vmem S128x256 .bf16) (h3 : a3.IsWhole) (a4 : Memref sig .tc .vmem S1x256 .bf16) (h4 : a4.IsWhole) (a5 : Memref sig .tc .vmem S128x1 .bf16) (h5 : a5.IsWhole) (a6 : Memref sig .tc .vmem S1x1 .f32) (h6 : a6.IsWhole) (a7 : Memref sig .tc .vmem S1x125x128 .f32) (h7 : a7.IsWhole) (a8 : Memref sig .tc .vmem S16x128 .f32) (h8 : a8.IsWhole) (a9 : Memref sig .tc .vmem S16x1 .f32) (h9 : a9.IsWhole) (hc0 : ¬cond0_0 i) (hc1 : ¬cond0_1 i)
    (x0 : Vec F S16000x128 .f32) (x1 : Vec F S1x125x128 .i32) (x2 : Vec F S128x256 .bf16) (x3 : Vec F S1x256 .bf16) (x4 : Vec F S128x1 .bf16) (x5 : Vec F S1x1 .f32) (xo7 : Vec F S16x128 .f32) (xo8 : Vec F S16x1 .f32) :
    out0_B_8 c i a1 h1 a2 h2 a3 h3 a4 h4 a5 h5 a6 h6 a7 h7 a8 h8 a9 h9 hc0 hc1 x0 x1 x2 x3 x4 x5 xo7 xo8 = dens x0 x1 x2 x3 x4 x5 (xo8) := by
  unfold out0_B_8
  rw [View.read_writes_eq_canon _ _ _ (cover0_B_8 c i a1 h1 a2 h2 a3 h3 a4 h4 a5 h5 a6 h6 a7 h7 a8 h8 a9 h9 hc0 hc1 x0 x1 x2 x3 x4 x5 xo7 xo8)]
  unfold kernelRun0_B
  dsimp only
  sl_unfold_words
  rw [View.canon_unit_zero hz2]
  unfold dens score
  simp only [View.readAt_eq_ld, h1.read_unread, h2.read_unread, h3.read_unread, h4.read_unread, h5.read_unread, h6.read_unread, h8.read_unread, h9.read_unread, View.ld_unit_zero (S := S16000x128) hz2, View.ld_unit_zero (S := S1x125x128) hz3, View.ld_unit_zero (S := S128x1) hz2, View.ld_unit_zero (S := S1x1) hz2, View.ld_unit_zero (S := S16x128) hz2, View.ld_unit_zero (S := S16x1) hz2]

/-- At the last point the body leaves the scores of the block. -/
theorem out_C_6 (c : Dev nD) (i : grid0.Coords) (a1 : Memref sig .tc .vmem S16000x128 .f32) (h1 : a1.IsWhole) (a2 : Memref sig .tc .vmem S1x125x128 .i32) (h2 : a2.IsWhole) (a3 : Memref sig .tc .vmem S128x256 .bf16) (h3 : a3.IsWhole) (a4 : Memref sig .tc .vmem S1x256 .bf16) (h4 : a4.IsWhole) (a5 : Memref sig .tc .vmem S128x1 .bf16) (h5 : a5.IsWhole) (a6 : Memref sig .tc .vmem S1x1 .f32) (h6 : a6.IsWhole) (a7 : Memref sig .tc .vmem S1x125x128 .f32) (h7 : a7.IsWhole) (a8 : Memref sig .tc .vmem S16x128 .f32) (h8 : a8.IsWhole) (a9 : Memref sig .tc .vmem S16x1 .f32) (h9 : a9.IsWhole) (hc0 : ¬cond0_0 i) (hc1 : cond0_1 i)
    (x0 : Vec F S16000x128 .f32) (x1 : Vec F S1x125x128 .i32) (x2 : Vec F S128x256 .bf16) (x3 : Vec F S1x256 .bf16) (x4 : Vec F S128x1 .bf16) (x5 : Vec F S1x1 .f32) (xo7 : Vec F S16x128 .f32) (xo8 : Vec F S16x1 .f32) :
    out0_C_6 c i a1 h1 a2 h2 a3 h3 a4 h4 a5 h5 a6 h6 a7 h7 a8 h8 a9 h9 hc0 hc1 x0 x1 x2 x3 x4 x5 xo7 xo8 = scoreBlk x0 x2 x3 x4 := by
  unfold out0_C_6
  rw [View.read_writes_eq_canon _ _ _ (cover0_C_6 c i a1 h1 a2 h2 a3 h3 a4 h4 a5 h5 a6 h6 a7 h7 a8 h8 a9 h9 hc0 hc1 x0 x1 x2 x3 x4 x5 xo7 xo8)]
  unfold kernelRun0_C
  dsimp only
  sl_unfold_words
  rw [View.canon_unit_zero hz3]
  unfold scoreBlk
  simp only [View.readCov_unit_zero (S := S16x128) _ hz2, View.readCov_unit_zero (S := S16x1) _ hz2, View.readAt_eq_ld, h1.read_unread, h2.read_unread, h3.read_unread, h4.read_unread, h5.read_unread, h6.read_unread, h8.read_unread, h9.read_unread, View.ld_unit_zero (S := S16000x128) hz2, View.ld_unit_zero (S := S1x125x128) hz3, View.ld_unit_zero (S := S128x1) hz2, View.ld_unit_zero (S := S1x1) hz2, View.ld_unit_zero (S := S16x128) hz2, View.ld_unit_zero (S := S16x1) hz2]

/-- At the last point the body leaves the weighted row sums divided by the weight sums (0 for an empty segment). -/
theorem out_C_7 (c : Dev nD) (i : grid0.Coords) (a1 : Memref sig .tc .vmem S16000x128 .f32) (h1 : a1.IsWhole) (a2 : Memref sig .tc .vmem S1x125x128 .i32) (h2 : a2.IsWhole) (a3 : Memref sig .tc .vmem S128x256 .bf16) (h3 : a3.IsWhole) (a4 : Memref sig .tc .vmem S1x256 .bf16) (h4 : a4.IsWhole) (a5 : Memref sig .tc .vmem S128x1 .bf16) (h5 : a5.IsWhole) (a6 : Memref sig .tc .vmem S1x1 .f32) (h6 : a6.IsWhole) (a7 : Memref sig .tc .vmem S1x125x128 .f32) (h7 : a7.IsWhole) (a8 : Memref sig .tc .vmem S16x128 .f32) (h8 : a8.IsWhole) (a9 : Memref sig .tc .vmem S16x1 .f32) (h9 : a9.IsWhole) (hc0 : ¬cond0_0 i) (hc1 : cond0_1 i)
    (x0 : Vec F S16000x128 .f32) (x1 : Vec F S1x125x128 .i32) (x2 : Vec F S128x256 .bf16) (x3 : Vec F S1x256 .bf16) (x4 : Vec F S128x1 .bf16) (x5 : Vec F S1x1 .f32) (xo7 : Vec F S16x128 .f32) (xo8 : Vec F S16x1 .f32) :
    out0_C_7 c i a1 h1 a2 h2 a3 h3 a4 h4 a5 h5 a6 h6 a7 h7 a8 h8 a9 h9 hc0 hc1 x0 x1 x2 x3 x4 x5 xo7 xo8 = k0_pay4 (dens x0 x1 x2 x3 x4 x5 (xo8)) (sums x0 x1 x2 x3 x4 x5 (xo7)) := by
  unfold out0_C_7
  rw [View.read_writes_eq_canon _ _ _ (cover0_C_7 c i a1 h1 a2 h2 a3 h3 a4 h4 a5 h5 a6 h6 a7 h7 a8 h8 a9 h9 hc0 hc1 x0 x1 x2 x3 x4 x5 xo7 xo8)]
  unfold kernelRun0_C
  dsimp only
  sl_unfold_words
  rw [View.canon_cons_unit_zero (S := S16x128) hz2]
  unfold sums dens score
  simp only [View.readCov_unit_zero (S := S16x128) _ hz2, View.readCov_unit_zero (S := S16x1) _ hz2, View.readAt_eq_ld, h1.read_unread, h2.read_unread, h3.read_unread, h4.read_unread, h5.read_unread, h6.read_unread, h8.read_unread, h9.read_unread, View.ld_unit_zero (S := S16000x128) hz2, View.ld_unit_zero (S := S1x125x128) hz3, View.ld_unit_zero (S := S128x1) hz2, View.ld_unit_zero (S := S1x1) hz2, View.ld_unit_zero (S := S16x128) hz2, View.ld_unit_zero (S := S16x1) hz2]

/-- At the last point the body leaves the weight sums. -/
theorem out_C_8 (c : Dev nD) (i : grid0.Coords) (a1 : Memref sig .tc .vmem S16000x128 .f32) (h1 : a1.IsWhole) (a2 : Memref sig .tc .vmem S1x125x128 .i32) (h2 : a2.IsWhole) (a3 : Memref sig .tc .vmem S128x256 .bf16) (h3 : a3.IsWhole) (a4 : Memref sig .tc .vmem S1x256 .bf16) (h4 : a4.IsWhole) (a5 : Memref sig .tc .vmem S128x1 .bf16) (h5 : a5.IsWhole) (a6 : Memref sig .tc .vmem S1x1 .f32) (h6 : a6.IsWhole) (a7 : Memref sig .tc .vmem S1x125x128 .f32) (h7 : a7.IsWhole) (a8 : Memref sig .tc .vmem S16x128 .f32) (h8 : a8.IsWhole) (a9 : Memref sig .tc .vmem S16x1 .f32) (h9 : a9.IsWhole) (hc0 : ¬cond0_0 i) (hc1 : cond0_1 i)
    (x0 : Vec F S16000x128 .f32) (x1 : Vec F S1x125x128 .i32) (x2 : Vec F S128x256 .bf16) (x3 : Vec F S1x256 .bf16) (x4 : Vec F S128x1 .bf16) (x5 : Vec F S1x1 .f32) (xo7 : Vec F S16x128 .f32) (xo8 : Vec F S16x1 .f32) :
    out0_C_8 c i a1 h1 a2 h2 a3 h3 a4 h4 a5 h5 a6 h6 a7 h7 a8 h8 a9 h9 hc0 hc1 x0 x1 x2 x3 x4 x5 xo7 xo8 = dens x0 x1 x2 x3 x4 x5 (xo8) := by
  unfold out0_C_8
  rw [View.read_writes_eq_canon _ _ _ (cover0_C_8 c i a1 h1 a2 h2 a3 h3 a4 h4 a5 h5 a6 h6 a7 h7 a8 h8 a9 h9 hc0 hc1 x0 x1 x2 x3 x4 x5 xo7 xo8)]
  unfold kernelRun0_C
  dsimp only
  sl_unfold_words
  rw [View.canon_unit_zero hz2]
  unfold dens score
  simp only [View.readCov_unit_zero (S := S16x128) _ hz2, View.readCov_unit_zero (S := S16x1) _ hz2, View.readAt_eq_ld, h1.read_unread, h2.read_unread, h3.read_unread, h4.read_unread, h5.read_unread, h6.read_unread, h8.read_unread, h9.read_unread, View.ld_unit_zero (S := S16000x128) hz2, View.ld_unit_zero (S := S1x125x128) hz3, View.ld_unit_zero (S := S128x1) hz2, View.ld_unit_zero (S := S1x1) hz2, View.ld_unit_zero (S := S16x128) hz2, View.ld_unit_zero (S := S16x1) hz2]

end Cert.KernelIdeal.Blocks
-- ==== Proof.KRead.lean ====
module

public import proofs.«01_k».proof.Proof.KBlocks
public import proofs.«01_k».proof.Proof.Math
public import Idealize.ShloMosaic.Lib.ValueIdx
public import Idealize.ShloMosaic.Lib.ValueLayout
public import Idealize.ShloMosaic.Lib.MatmulPlain
public import Idealize.ShloMosaic.Lib.Pipeline.ValueKit.Tiles

@[expose] public section

set_option maxRecDepth 16384

noncomputable section

/-! The block computations of the two passes over the extended reals, read at one index. -/

namespace Cert.KernelIdeal.Read

open Cert.KernelIdeal Cert.KernelIdeal.Gen Cert.KernelIdeal.Blocks Cert.PoolMath
open Idealize.ShloMosaic Idealize.ShloMosaic.TcCoe
open Idealize.ShloMosaic.ValueIdx (broadcastTo_1b_ab_apply ix0 ix1 ix2 ix3 eq_ix1 eq_ix2 eq_ix3 contrEquiv1 contrEquiv1_symm_val)
open scoped BigOperators

/-- The literal one half at the narrow format. -/
theorem lit_half_bf16 : (Scalar.ofBits .bf16 0x3F00#16 : Ideal .bf16) = half := by
  show Ideal.ofBits .bf16 0x3F00#16 = _
  simp [Ideal.ofBits, Ideal.ieee, -EReal.coe_mul]; norm_num
/-- The literal one half. -/
theorem lit_half : (Scalar.ofBits .f32 0x3F000000#32 : Ideal .f32) = half := by
  show Ideal.ofBits .f32 0x3F000000#32 = _
  simp [Ideal.ofBits, Ideal.ieee, -EReal.coe_mul]; norm_num
/-- The literal one. -/
theorem lit_one : (Scalar.ofBits .f32 0x3F800000#32 : Ideal .f32) = 1 := by
  show Ideal.ofBits .f32 0x3F800000#32 = _
  simp [Ideal.ofBits, Ideal.ieee, -EReal.coe_mul]; norm_num
/-- The literal zero. -/
theorem lit_zero : (Scalar.ofBits .f32 0x00000000#32 : Ideal .f32) = 0 := by
  show Ideal.ofBits .f32 0x00000000#32 = _
  simp [Ideal.ofBits, Ideal.ieee, -EReal.coe_mul]

/-- The product of a column by the transpose of a block, read at row `r`. -/
theorem matmul_col_apply {φ₁ φ₂ : FTy} (lhs : FVec Ideal S128x1 φ₁) (rhs : FVec Ideal S16000x128 φ₂)
    (acc : FVec Ideal S1x16000 .f32) (r : Fin 16000) :
    matmul dot_S128x1_S16000x128_S1x16000_0_1_1_0_n_n none lhs rhs acc (ix2 (0 : Fin 1) r)
      = acc (ix2 (0 : Fin 1) r) + ∑ j : Fin 128, lhs (ix2 j (0 : Fin 1)) * rhs (ix2 r j) := by
  have hr : (dot_S128x1_S16000x128_S1x16000_0_1_1_0_n_n).contr.rank = 1 := rfl
  have hs : (dot_S128x1_S16000x128_S1x16000_0_1_1_0_n_n).contr.size ⟨0, by rw [hr]; exact Nat.one_pos⟩ = 128 := rfl
  show FloatOps.matmul _ _ _ _ _ _ = _
  rw [Ideal.matmul_apply, ← Equiv.sum_comp (contrEquiv1 _ 128 hr hs).symm]
  refine congrArg (acc (ix2 (0 : Fin 1) r) + ·) (Finset.sum_congr rfl fun k _ => ?_)
  have hk := contrEquiv1_symm_val _ 128 hr hs k
  have el : (dot_S128x1_S16000x128_S1x16000_0_1_1_0_n_n).lhsIdx (ix2 (0 : Fin 1) r) ((contrEquiv1 _ 128 hr hs).symm k)
      = ix2 k (0 : Fin 1) := by
    funext a; apply Fin.ext
    match a with
    | ⟨0, _⟩ => exact hk
    | ⟨1, _⟩ => rfl
  have er : (dot_S128x1_S16000x128_S1x16000_0_1_1_0_n_n).rhsIdx (ix2 (0 : Fin 1) r) ((contrEquiv1 _ 128 hr hs).symm k)
      = ix2 r k := by
    funext a; apply Fin.ext
    match a with
    | ⟨0, _⟩ => rfl
    | ⟨1, _⟩ => exact hk
  rw [el, er]

/-- The product of a block of rows with a weight matrix, read at row `r`, column `c`. -/
theorem matmul_rows_apply {φ₁ φ₂ : FTy} (lhs : FVec Ideal S16000x128 φ₁) (rhs : FVec Ideal S128x128 φ₂)
    (acc : FVec Ideal S16000x128 .f32) (r : Fin 16000) (c : Fin 128) :
    matmul dot_S16000x128_S128x128_S16000x128_1_0_0_1_n_n none lhs rhs acc (ix2 r c)
      = acc (ix2 r c) + ∑ k : Fin 128, lhs (ix2 r k) * rhs (ix2 k c) :=
  Ideal.matmul_plain_apply (M := 16000) (K := 128) (N := 128) none lhs rhs acc r c

/-- The product of the segment weights with a block of rows, read at segment `s`, column `c`. -/
theorem matmul_seg_apply {φ₁ φ₂ : FTy} (lhs : FVec Ideal S16x16000 φ₁) (rhs : FVec Ideal S16000x128 φ₂)
    (acc : FVec Ideal S16x128 .f32) (s : Fin 16) (c : Fin 128) :
    matmul dot_S16x16000_S16000x128_S16x128_1_0_0_1_n_n none lhs rhs acc (ix2 s c)
      = acc (ix2 s c) + ∑ k : Fin 16000, lhs (ix2 s k) * rhs (ix2 k c) :=
  Ideal.matmul_plain_apply (M := 16) (K := 16000) (N := 128) none lhs rhs acc s c

/-- The score of row `r` of a block: the gated features weighted by the attention vector. -/
theorem score_apply (x0 : Vec Ideal S16000x128 .f32) (x2 : Vec Ideal S128x256 .bf16) (x3 : Vec Ideal S1x256 .bf16)
    (x4 : Vec Ideal S128x1 .bf16) (r : Fin 16000) :
    score x0 x2 x3 x4 (ix2 (0 : Fin 1) r)
      = ∑ j : Fin 128, x4 (ix2 j (0 : Fin 1))
          * (Ideal.tanh (∑ k : Fin 128, x0 (ix2 r k) * x2 (ix2 k (⟨j.val, by omega⟩ : Fin 256)) + x3 (ix2 (0 : Fin 1) (⟨j.val, by omega⟩ : Fin 256)))
            * (half * Ideal.tanh (∑ k : Fin 128, x0 (ix2 r k) * x2 (ix2 k (⟨128 + j.val, by omega⟩ : Fin 256))
                  + x3 (ix2 (0 : Fin 1) (⟨128 + j.val, by omega⟩ : Fin 256))) + half)) := by
  have hz : ∀ (s : Shape) (i : s.Idx), (constant (F := Ideal) s .f32 0x00000000#32) i = 0 := fun s i => lit_zero
  have ewl : ∀ k j : Fin 128, View.ld x2 wLeft (ix2 k j) = x2 (ix2 k (⟨j.val, by omega⟩ : Fin 256)) := fun k j =>
    View.ld_unit_apply_of x2 _ _ _ _ _ fun a => by
      match a with
      | ⟨0, _⟩ => exact (Nat.zero_add _).symm
      | ⟨1, _⟩ => exact (Nat.zero_add _).symm
  have ewr : ∀ k j : Fin 128, View.ld x2 wRight (ix2 k j) = x2 (ix2 k (⟨128 + j.val, by omega⟩ : Fin 256)) := fun k j =>
    View.ld_unit_apply_of x2 _ _ _ _ _ fun a => by
      match a with
      | ⟨0, _⟩ => exact (Nat.zero_add _).symm
      | ⟨1, _⟩ => rfl
  have ebl : ∀ j : Fin 128, View.ld x3 bLeft (ix2 (0 : Fin 1) j) = x3 (ix2 (0 : Fin 1) (⟨j.val, by omega⟩ : Fin 256)) := fun j =>
    View.ld_unit_apply_of x3 _ _ _ _ _ fun a => by
      match a with
      | ⟨0, _⟩ => rfl
      | ⟨1, _⟩ => exact (Nat.zero_add _).symm
  have ebr : ∀ j : Fin 128, View.ld x3 bRight (ix2 (0 : Fin 1) j) = x3 (ix2 (0 : Fin 1) (⟨128 + j.val, by omega⟩ : Fin 256)) := fun j =>
    View.ld_unit_apply_of x3 _ _ _ _ _ fun a => by
      match a with
      | ⟨0, _⟩ => rfl
      | ⟨1, _⟩ => rfl
  unfold score k0_pay8 k0_pay7
  dsimp only
  simp only [shapeCast_self]
  rw [matmul_col_apply, hz, zero_add]
  refine Finset.sum_congr rfl fun j _ => ?_
  refine congrArg (x4 (ix2 j (0 : Fin 1)) * ·) ?_
  show Ideal.tanh (_ + _) * ((Scalar.ofBits .bf16 0x3F00#16 : Ideal .bf16) * Ideal.tanh (_ + _) + (Scalar.ofBits .bf16 0x3F00#16 : Ideal .bf16)) = _
  rw [lit_half_bf16]
  congr 2
  · congr 1
    · refine (matmul_rows_apply (φ₁ := .bf16) (φ₂ := .bf16) _ _ _ r j).trans ?_
      rw [hz, zero_add]
      refine Finset.sum_congr rfl fun k _ => ?_
      rw [ewl]; rfl
    · refine (broadcastTo_1b_ab_apply _ _ r j).trans (ebl j)
  · congr 2
    congr 1
    · refine (matmul_rows_apply (φ₁ := .bf16) (φ₂ := .bf16) _ _ _ r j).trans ?_
      rw [hz, zero_add]
      refine Finset.sum_congr rfl fun k _ => ?_
      rw [ewr]; rfl
    · refine (broadcastTo_1b_ab_apply _ _ r j).trans (ebr j)

/-- The stored layout of the scores: row `128 * p + l` at place `(p, l)`. -/
theorem scoreBlk_apply (x0 : Vec Ideal S16000x128 .f32) (x2 : Vec Ideal S128x256 .bf16) (x3 : Vec Ideal S1x256 .bf16)
    (x4 : Vec Ideal S128x1 .bf16) (p : Fin 125) (l : Fin 128) :
    scoreBlk x0 x2 x3 x4 (ix3 (0 : Fin 1) p l)
      = score x0 x2 x3 x4 (ix2 (0 : Fin 1) (⟨p.val * 128 + l.val, by omega⟩ : Fin 16000)) := by
  unfold scoreBlk k0_pay9 score
  refine shapeCast_apply _ _ _ _ ?_
  rw [Shape.rowMajor_val_two, Shape.rowMajor_val_three]
  show 0 * 16000 + (p.val * 128 + l.val) = (0 * 125 + p.val) * 128 + l.val
  omega

/-- The weight of row `r` of a block in segment `s`. -/
theorem weight_apply (v30 : FVec Ideal S1x16000 .f32) (x5 : Vec Ideal S1x1 .f32) (x1 : Vec Ideal S1x125x128 .i32)
    (s : Fin 16) (r : Fin 16000) :
    k0_pay1 v30 x5 x1 (ix2 s r)
      = if x1 (ix3 (0 : Fin 1) (⟨r.val / 128, by omega⟩ : Fin 125) (⟨r.val % 128, by omega⟩ : Fin 128)) = BitVec.ofNat 32 s.val
        then Ideal.exp (v30 (ix2 (0 : Fin 1) r) - x5 (ix2 (0 : Fin 1) (0 : Fin 1))) else 0 := by
  unfold k0_pay1
  dsimp only
  simp only [shapeCast_self]
  show Scalar.select (IntOp.cmpi .eq (broadcastTo S16x16000 _ _ (ix2 s r)) (broadcastTo S16x16000 _ _ (ix2 s r)))
    (broadcastTo S16x16000 _ _ (ix2 s r)) (Scalar.ofBits .f32 0x00000000#32) = _
  have e1 : broadcastTo S16x16000 (shapeCast S1x16000 x1 shapeCasts_S1x125x128_S1x16000) broadcasts_S1x16000_S16x16000 (ix2 s r)
      = x1 (ix3 (0 : Fin 1) (⟨r.val / 128, by omega⟩ : Fin 125) (⟨r.val % 128, by omega⟩ : Fin 128)) := by
    refine (broadcastTo_1b_ab_apply _ _ s r).trans (shapeCast_apply _ _ _ _ ?_)
    rw [Shape.rowMajor_val_two, Shape.rowMajor_val_three]
    show (0 * 125 + r.val / 128) * 128 + r.val % 128 = 0 * 16000 + r.val
    omega
  have e2 : broadcastTo S16x16000 (iota .tc S16x1 32 [0] iota_S16x1_d0_w32) broadcasts_S16x1_S16x16000 (ix2 s r)
      = BitVec.ofNat 32 s.val := by
    refine (broadcastTo_apply _ _ _ (ix2 s (0 : Fin 1)) fun a => ?_).trans ?_
    · match a with
      | ⟨0, _⟩ => rfl
      | ⟨1, _⟩ => rfl
    · exact iota_single_apply .tc S16x1 32 0 _ _
  rw [e1, e2, lit_zero]
  have e3 : ∀ y : FVec Ideal S1x16000 .f32, broadcastTo S16x16000 y broadcasts_S1x16000_S16x16000 (ix2 s r) = y (ix2 (0 : Fin 1) r) :=
    fun y => broadcastTo_1b_ab_apply y _ s r
  rw [e3]
  have e4 : exp (subf v30 (broadcastTo S1x16000 x5 broadcasts_S1x1_S1x16000)) (ix2 (0 : Fin 1) r)
      = Ideal.exp (v30 (ix2 (0 : Fin 1) r) - x5 (ix2 (0 : Fin 1) (0 : Fin 1))) := by
    show Ideal.exp (_ - broadcastTo S1x16000 x5 _ _) = _
    rw [broadcastTo_apply x5 _ _ (ix2 (0 : Fin 1) (0 : Fin 1)) fun a => by
      match a with
      | ⟨0, _⟩ => rfl
      | ⟨1, _⟩ => rfl]
  rw [e4]
  by_cases h : x1 (ix3 (0 : Fin 1) (⟨r.val / 128, by omega⟩ : Fin 125) (⟨r.val % 128, by omega⟩ : Fin 128)) = BitVec.ofNat 32 s.val
  · rw [if_pos h, h]; simp [IntOp.cmpi, Scalar.select]
  · rw [if_neg h]; simp [IntOp.cmpi, Scalar.select, beq_eq_false_iff_ne.mpr h]

/-- The weight of row `r` of a block in segment `s`, from the blocks the point reads. -/
def blkWt (x0 : Vec Ideal S16000x128 .f32) (x1 : Vec Ideal S1x125x128 .i32) (x2 : Vec Ideal S128x256 .bf16) (x3 : Vec Ideal S1x256 .bf16)
    (x4 : Vec Ideal S128x1 .bf16) (x5 : Vec Ideal S1x1 .f32) (s : Fin 16) (r : Fin 16000) : EReal :=
  if x1 (ix3 (0 : Fin 1) (⟨r.val / 128, by omega⟩ : Fin 125) (⟨r.val % 128, by omega⟩ : Fin 128)) = BitVec.ofNat 32 s.val
  then Ideal.exp (score x0 x2 x3 x4 (ix2 (0 : Fin 1) r) - x5 (ix2 (0 : Fin 1) (0 : Fin 1))) else 0

/-- One block adds, to segment `s`'s weighted row sum, its rows weighted. -/
theorem sums_apply (x0 : Vec Ideal S16000x128 .f32) (x1 : Vec Ideal S1x125x128 .i32) (x2 : Vec Ideal S128x256 .bf16)
    (x3 : Vec Ideal S1x256 .bf16) (x4 : Vec Ideal S128x1 .bf16) (x5 : Vec Ideal S1x1 .f32) (v : Vec Ideal S16x128 .f32)
    (s : Fin 16) (c : Fin 128) :
    sums x0 x1 x2 x3 x4 x5 v (ix2 s c) = v (ix2 s c) + ∑ r : Fin 16000, blkWt x0 x1 x2 x3 x4 x5 s r * x0 (ix2 r c) := by
  unfold sums k0_pay2 k0_pay7
  dsimp only
  simp only [shapeCast_self]
  show _ + matmul dot_S16x16000_S16000x128_S16x128_1_0_0_1_n_n none _ _ _ (ix2 s c) = _
  rw [matmul_seg_apply]
  show v (ix2 s c) + ((Scalar.ofBits .f32 0x00000000#32 : Ideal .f32) + _) = _
  rw [lit_zero, zero_add]
  refine congrArg (v (ix2 s c) + ·) (Finset.sum_congr rfl fun r _ => ?_)
  exact congrArg (· * x0 (ix2 r c)) (weight_apply _ _ _ s r)

/-- One block adds, to segment `s`'s weight sum, its rows' weights. -/
theorem dens_apply (x0 : Vec Ideal S16000x128 .f32) (x1 : Vec Ideal S1x125x128 .i32) (x2 : Vec Ideal S128x256 .bf16)
    (x3 : Vec Ideal S1x256 .bf16) (x4 : Vec Ideal S128x1 .bf16) (x5 : Vec Ideal S1x1 .f32) (v : Vec Ideal S16x1 .f32) (s : Fin 16) :
    dens x0 x1 x2 x3 x4 x5 v (ix2 s (0 : Fin 1)) = v (ix2 s (0 : Fin 1)) + ∑ r : Fin 16000, blkWt x0 x1 x2 x3 x4 x5 s r := by
  unfold dens k0_pay3
  dsimp only
  simp only [shapeCast_self]
  refine congrArg (v (ix2 s (0 : Fin 1)) + ·) ?_
  rw [shapeCast_apply _ _ _ (ix1 s) (by
    rw [Shape.rowMajor_val_one, Shape.rowMajor_val_two]
    show s.val = s.val * 1 + 0
    omega)]
  refine (Ideal.multiReduction_add_single _ _ reduces_S16x16000_S16 _ _ (ix1 s)).trans ?_
  show ∑ r : Fin 16000, _ = _
  refine Finset.sum_congr rfl fun r _ => ?_
  rw [show reduces_S16x16000_S16.lift (ix1 s) r = ix2 s r from by
    funext a; apply Fin.ext
    match a with
    | ⟨0, _⟩ => rfl
    | ⟨1, _⟩ => rfl]
  exact weight_apply _ _ _ s r

/-- The normalisation at the last point, read at segment `s`, column `c`. -/
theorem pool_apply (d : Vec Ideal S16x1 .f32) (v : Vec Ideal S16x128 .f32) (s : Fin 16) (c : Fin 128) :
    k0_pay4 d v (ix2 s c)
      = v (ix2 s c) * (if 0 < d (ix2 s (0 : Fin 1)) then Ideal.div 1 (d (ix2 s (0 : Fin 1))) else 0) := by
  unfold k0_pay4
  simp only [shapeCast_self]
  refine congrArg (v (ix2 s c) * ·) ?_
  rw [broadcastTo_apply _ _ _ (ix2 s (0 : Fin 1)) fun a => by
      match a with
      | ⟨0, _⟩ => rfl
      | ⟨1, _⟩ => rfl]
  show Scalar.select (Ideal.cmp .ogt (d (ix2 s (0 : Fin 1))) (Scalar.ofBits .f32 0x00000000#32 : Ideal .f32))
    (Ideal.div (Scalar.ofBits .f32 0x3F800000#32 : Ideal .f32) (d (ix2 s (0 : Fin 1)))) (Scalar.ofBits .f32 0x00000000#32 : Ideal .f32) = _
  rw [lit_zero, lit_one]
  by_cases h : 0 < d (ix2 s (0 : Fin 1))
  · rw [if_pos h]; simp [Ideal.cmp, Scalar.select, h]
  · rw [if_neg h]; simp [Ideal.cmp, Scalar.select, h]

/-- A select on an equality of words, read as a choice. -/
theorem select_eq {α : Type} (b k : BitVec 32) (x y : α) : Scalar.select (IntOp.cmpi .eq b k) x y = if b = k then x else y := by
  by_cases h : b = k
  · rw [if_pos h, h]; simp [IntOp.cmpi, Scalar.select]
  · rw [if_neg h]; simp [IntOp.cmpi, Scalar.select, beq_eq_false_iff_ne.mpr h]

/-- A one-entry block broadcast over the rows, after its inverse is taken, is that inverse at every place. -/
theorem inv_apply (y : FVec Ideal S1x1 .f32) (i : S2500x128.Idx) :
    broadcastTo S2500x128 (divf (broadcast S1x1 (Scalar.ofBits .f32 0x3F800000#32 : Ideal .f32)) y) broadcasts_S1x1_S2500x128 i
      = Ideal.div 1 (y (ix2 (0 : Fin 1) (0 : Fin 1))) := by
  rw [broadcastTo_apply _ _ _ (ix2 (0 : Fin 1) (0 : Fin 1)) fun a => by
      match a with
      | ⟨0, _⟩ => rfl
      | ⟨1, _⟩ => rfl]
  show Ideal.div (Scalar.ofBits .f32 0x3F800000#32 : Ideal .f32) _ = _
  rw [lit_one]

/-- A row of the weight sums read as a one-entry block. -/
theorem row_apply (d : Vec Ideal S16x1 .f32) (k : Fin 16) (inb) :
    View.ld d (Rect.unit (s := S16x1) ![k.val, 0] S1x1.size inb) (ix2 (0 : Fin 1) (0 : Fin 1)) = d (ix2 k (0 : Fin 1)) :=
  View.ld_unit_apply_of d _ _ _ _ _ fun a => by
    match a with
    | ⟨0, _⟩ => rfl
    | ⟨1, _⟩ => rfl

/-- The second pass at a place whose segment word is `s`: the shifted exponential of the score over the segment's weight sum. -/
theorem attn_apply (x0 : Vec Ideal S2500x128 .f32) (x1 : Vec Ideal S2500x128 .i32) (x2 : Vec Ideal S16x1 .f32) (x3 : Vec Ideal S1x1 .f32)
    (i : S2500x128.Idx) (s : Fin 16) (hs : x1 i = BitVec.ofNat 32 s.val) :
    out1_4 x0 x1 x2 x3 i
      = Ideal.exp (x0 i - x3 (ix2 (0 : Fin 1) (0 : Fin 1))) * Ideal.div 1 (x2 (ix2 s (0 : Fin 1))) := by
  unfold_out out1_4
  rw [View.canon_unit_zero hz2]
  simp only [View.ld_unit_zero (S := S2500x128) hz2, View.ld_unit_zero (S := S1x1) hz2]
  unfold k1_pay1 k1_pay2 k1_pay9 k1_pay6 k1_pay4 k1_pay5 k1_pay7 k1_pay8 k1_pay10 k1_pay11 k1_pay3
  simp only [shapeCast_self]
  have hx : (exp (subf x0 (broadcastTo S2500x128 x3 broadcasts_S1x1_S2500x128)) : FVec Ideal S2500x128 .f32) i = Ideal.exp (x0 i - x3 (ix2 (0 : Fin 1) (0 : Fin 1))) := by
    show Ideal.exp (_ - broadcastTo S2500x128 x3 _ _) = _
    rw [broadcastTo_apply x3 _ _ (ix2 (0 : Fin 1) (0 : Fin 1)) fun a => by
      match a with
      | ⟨0, _⟩ => rfl
      | ⟨1, _⟩ => rfl]
  refine congr (congrArg (· * ·) hx) ?_
  simp only [ValueIdx.select_apply, cmpi, select_eq, inv_apply, ValueIdx.broadcast_apply]
  have e0 : View.ld x2 r1_2 (ix2 (0 : Fin 1) (0 : Fin 1)) = x2 (ix2 (0 : Fin 16) (0 : Fin 1)) := row_apply x2 0 _
  have e1 : View.ld x2 r1_3 (ix2 (0 : Fin 1) (0 : Fin 1)) = x2 (ix2 (1 : Fin 16) (0 : Fin 1)) := row_apply x2 1 _
  have e2 : View.ld x2 r1_4 (ix2 (0 : Fin 1) (0 : Fin 1)) = x2 (ix2 (2 : Fin 16) (0 : Fin 1)) := row_apply x2 2 _
  have e3 : View.ld x2 r1_5 (ix2 (0 : Fin 1) (0 : Fin 1)) = x2 (ix2 (3 : Fin 16) (0 : Fin 1)) := row_apply x2 3 _
  have e4 : View.ld x2 r1_6 (ix2 (0 : Fin 1) (0 : Fin 1)) = x2 (ix2 (4 : Fin 16) (0 : Fin 1)) := row_apply x2 4 _
  have e5 : View.ld x2 r1_7 (ix2 (0 : Fin 1) (0 : Fin 1)) = x2 (ix2 (5 : Fin 16) (0 : Fin 1)) := row_apply x2 5 _
  have e6 : View.ld x2 r1_8 (ix2 (0 : Fin 1) (0 : Fin 1)) = x2 (ix2 (6 : Fin 16) (0 : Fin 1)) := row_apply x2 6 _
  have e7 : View.ld x2 r1_9 (ix2 (0 : Fin 1) (0 : Fin 1)) = x2 (ix2 (7 : Fin 16) (0 : Fin 1)) := row_apply x2 7 _
  have e8 : View.ld x2 r1_10 (ix2 (0 : Fin 1) (0 : Fin 1)) = x2 (ix2 (8 : Fin 16) (0 : Fin 1)) := row_apply x2 8 _
  have e9 : View.ld x2 r1_11 (ix2 (0 : Fin 1) (0 : Fin 1)) = x2 (ix2 (9 : Fin 16) (0 : Fin 1)) := row_apply x2 9 _
  have e10 : View.ld x2 r1_12 (ix2 (0 : Fin 1) (0 : Fin 1)) = x2 (ix2 (10 : Fin 16) (0 : Fin 1)) := row_apply x2 10 _
  have e11 : View.ld x2 r1_13 (ix2 (0 : Fin 1) (0 : Fin 1)) = x2 (ix2 (11 : Fin 16) (0 : Fin 1)) := row_apply x2 11 _
  have e12 : View.ld x2 r1_14 (ix2 (0 : Fin 1) (0 : Fin 1)) = x2 (ix2 (12 : Fin 16) (0 : Fin 1)) := row_apply x2 12 _
  have e13 : View.ld x2 r1_15 (ix2 (0 : Fin 1) (0 : Fin 1)) = x2 (ix2 (13 : Fin 16) (0 : Fin 1)) := row_apply x2 13 _
  have e14 : View.ld x2 r1_16 (ix2 (0 : Fin 1) (0 : Fin 1)) = x2 (ix2 (14 : Fin 16) (0 : Fin 1)) := row_apply x2 14 _
  have e15 : View.ld x2 r1_17 (ix2 (0 : Fin 1) (0 : Fin 1)) = x2 (ix2 (15 : Fin 16) (0 : Fin 1)) := row_apply x2 15 _
  rw [e0, e1, e2, e3, e4, e5, e6, e7, e8, e9, e10, e11, e12, e13, e14, e15]
  rw [hs]
  fin_cases s <;> simp

end Cert.KernelIdeal.Read
-- ==== Proof.KArrays.lean ====
module

public import proofs.«01_k».proof.Proof.KBlocks
public import Idealize.ShloMosaic.Lib.ValueIdx
public import Idealize.ShloMosaic.Lib.Pipeline.ValueKit.Geometry

@[expose] public section

set_option maxRecDepth 16384

noncomputable section

/-! What the output arrays of the two passes hold once each pass is over, in terms of the blocks the passes read. -/

namespace Cert.KernelIdeal.Arrays

open Cert.KernelIdeal Cert.KernelIdeal.Gen Cert.KernelIdeal.Blocks
open Idealize.ShloMosaic Idealize.ShloMosaic.TcCoe Idealize.ShloMosaic.Pipeline

variable {F : FTy → Type} [FloatOps F]
variable (V : (c : Dev nD) → (b : Ref sig .tc) → Buf (Elt F) ((c.tc : Thread nD τ).loc b))

/-- The weighted row sums after grid point `n`. -/
def sumsTo (c : Dev nD) : (n : ℕ) → n < cfg0.N → Vec F S16x128 .f32
  | 0, h => sums (iblk0 V c 0 ⟨0, h⟩) (iblk0 V c 1 ⟨0, h⟩) (iblk0 V c 2 ⟨0, h⟩) (iblk0 V c 3 ⟨0, h⟩) (iblk0 V c 4 ⟨0, h⟩)
      (iblk0 V c 5 ⟨0, h⟩) (k0_pay5 (F := F))
  | n + 1, h => sums (iblk0 V c 0 ⟨n + 1, h⟩) (iblk0 V c 1 ⟨n + 1, h⟩) (iblk0 V c 2 ⟨n + 1, h⟩) (iblk0 V c 3 ⟨n + 1, h⟩)
      (iblk0 V c 4 ⟨n + 1, h⟩) (iblk0 V c 5 ⟨n + 1, h⟩) (sumsTo c n (Nat.lt_of_succ_lt h))

/-- The weight sums after grid point `n`. -/
def densTo (c : Dev nD) : (n : ℕ) → n < cfg0.N → Vec F S16x1 .f32
  | 0, h => dens (iblk0 V c 0 ⟨0, h⟩) (iblk0 V c 1 ⟨0, h⟩) (iblk0 V c 2 ⟨0, h⟩) (iblk0 V c 3 ⟨0, h⟩) (iblk0 V c 4 ⟨0, h⟩)
      (iblk0 V c 5 ⟨0, h⟩) (k0_pay6 (F := F))
  | n + 1, h => dens (iblk0 V c 0 ⟨n + 1, h⟩) (iblk0 V c 1 ⟨n + 1, h⟩) (iblk0 V c 2 ⟨n + 1, h⟩) (iblk0 V c 3 ⟨n + 1, h⟩)
      (iblk0 V c 4 ⟨n + 1, h⟩) (iblk0 V c 5 ⟨n + 1, h⟩) (densTo c n (Nat.lt_of_succ_lt h))

/-- The scores of the rows of grid point `t`, in the layout they are stored in. -/
def scoresAt (c : Dev nD) (t : Fin cfg0.N) : Vec F S1x125x128 .f32 :=
  scoreBlk (iblk0 V c 0 t) (iblk0 V c 2 t) (iblk0 V c 3 t) (iblk0 V c 4 t)

/-- Before the last point, the three output blocks hold the scores, the weighted row sums and the weight sums so far. -/
theorem outsAt_mid (c : Dev nD) : ∀ (n : ℕ) (h : n < cfg0.N), n < 19 →
    outsAt0 V c n h = (scoresAt V c ⟨n, h⟩, sumsTo V c n h, densTo V c n h)
  | 0, h, _ => by
    refine (outsAt0_A V c ⟨0, h⟩ rfl (by dsimp only; omega)).trans ?_
    rw [out_A_6, out_A_7, out_A_8]
    rfl
  | n + 1, h, h19 => by
    have hN : cfg0.N = 20 := N_0
    have h0 : ¬(⟨n + 1, h⟩ : Fin cfg0.N).val % 20 = 0 := by dsimp only; omega
    have h1 : ¬(⟨n + 1, h⟩ : Fin cfg0.N).val % 20 = 19 := by dsimp only; omega
    refine (outsAt0_B V c ⟨n + 1, h⟩ h0 h1).trans ?_
    rw [out_B_6, out_B_7, out_B_8]
    have e := outsAt_mid c n (Nat.lt_of_succ_lt h) (by omega)
    show (_, sums _ _ _ _ _ _ (outsAt0 V c n _).2.1, dens _ _ _ _ _ _ (outsAt0 V c n _).2.2) = _
    rw [e]
    rfl

/-- At every point the score block holds the scores of the point's rows. -/
theorem outsAt_scores (c : Dev nD) (t : Fin cfg0.N) : (outsAt0 V c t.val t.isLt).1 = scoresAt V c t := by
  have hN : cfg0.N = 20 := N_0
  have ht := t.isLt
  by_cases h19 : t.val < 19
  · rw [outsAt_mid V c t.val t.isLt h19]
  · rw [outsAt0_C V c t (by omega) (by omega)]
    dsimp only
    rw [out_C_6]
    rfl

/-- After the last point the two accumulated blocks hold the normalised row sums and the weight sums. -/
theorem outsAt_last (c : Dev nD) (h : 19 < cfg0.N) : (outsAt0 V c 19 h).2 = (k0_pay4 (densTo V c 19 h) (sumsTo V c 19 h), densTo V c 19 h) := by
  have hN : cfg0.N = 20 := N_0
  rw [show outsAt0 V c 19 h = _ from outsAt0_C V c ⟨19, h⟩ (by dsimp only; omega) (by dsimp only)]
  dsimp only
  rw [out_C_7, out_C_8]
  have e := outsAt_mid V c 18 (by omega) (by omega)
  show (k0_pay4 (dens _ _ _ _ _ _ (outsAt0 V c 18 _).2.2) (sums _ _ _ _ _ _ (outsAt0 V c 18 _).2.1), dens _ _ _ _ _ _ (outsAt0 V c 18 _).2.2) = _
  rw [e]
  rfl

/-- The last grid point of the first pass. -/
abbrev tLast : Fin cfg0.N := ⟨19, by rw [show cfg0.N = 20 from N_0]; decide⟩

/-- The pooled array after the first pass. -/
theorem final_pool (c : Dev nD) : (dat0 V c).arrAt 7 cfg0.N = k0_pay4 (densTo V c 19 tLast.isLt) (sumsTo V c 19 tLast.isLt) := by
  refine (dat0 V c).arrAt_eq_of_after_last 7 tLast (by decide +kernel) _ fun j => ?_
  blk_simp
  rw [after0_7]
  exact congrFun (congrArg Prod.fst (outsAt_last V c tLast.isLt)) j

/-- The array of weight sums after the first pass. -/
theorem final_dens (c : Dev nD) : (dat0 V c).arrAt 8 cfg0.N = densTo V c 19 tLast.isLt := by
  refine (dat0 V c).arrAt_eq_of_after_last 8 tLast (by decide +kernel) _ fun j => ?_
  blk_simp
  rw [after0_8]
  exact congrFun (congrArg Prod.snd (outsAt_last V c tLast.isLt)) j

/-- The array of scores after the first pass: at block `t`, what the pass left for the rows of point `t`. -/
theorem final_scores (c : Dev nD) : (dat0 V c).arrAt 6 cfg0.N
    = fun i : S20x125x128.Idx => scoresAt V c ⟨(i 0).val, by rw [show cfg0.N = 20 from N_0]; exact (i 0).isLt⟩
        (ValueIdx.ix3 (0 : Fin 1) (i 1 : Fin 125) (i 2 : Fin 128)) := by
  refine (dat0 V c).arrAt_eq_of_covers 6 _ (by decide +kernel) fun t hf y => ?_
  blk_simp
  rw [after0_6, outsAt_scores]
  have e0 : win0_6.index t 0 = t.val := (by decide +kernel : ∀ t : Fin grid0.N, win0_6.index t 0 = t.val) t
  have e1 : win0_6.index t 1 = 0 := (by decide +kernel : ∀ t : Fin grid0.N, win0_6.index t 1 = 0) t
  have e2 : win0_6.index t 2 = 0 := (by decide +kernel : ∀ t : Fin grid0.N, win0_6.index t 2 = 0) t
  refine congr (congrArg (scoresAt V c) (Fin.ext (a := t) e0.symm)) ?_
  funext a
  apply Fin.ext
  match a with
  | ⟨0, _⟩ => show (y 0).val = 0; have h : (y 0).val < 1 := (y 0).isLt; omega
  | ⟨1, _⟩ => show (y 1).val = ((win0_6.blk t).view.emb y 1).val; blk_simp; rw [e1]; omega
  | ⟨2, _⟩ => show (y 2).val = ((win0_6.blk t).view.emb y 2).val; blk_simp; rw [e2]; omega

/-- The rows point `t` of the first pass reads are the array's rows from `16000 * t`. -/
theorem iblk0_0 (c : Dev nD) (t : Fin cfg0.N) (r : Fin 16000) (l : Fin 128) (h : 16000 * t.val + r.val < 320000) :
    (iblk0 V c 0 t : Vec F S16000x128 .f32) (ValueIdx.ix2 r l)
      = (V c main_arg0 : Vec F S320000x128 .f32) (ValueIdx.ix2 ⟨16000 * t.val + r.val, h⟩ l) := by
  have e0 : win0_0.index t 0 = t.val := (by decide +kernel : ∀ t : Fin grid0.N, win0_0.index t 0 = t.val) t
  have e1 : win0_0.index t 1 = 0 := (by decide +kernel : ∀ t : Fin grid0.N, win0_0.index t 1 = 0) t
  blk_simp [iblk0]
  congr 1; funext a; apply Fin.ext
  match a with
  | ⟨0, _⟩ => show ((win0_0.blk t).view.emb _ 0).val = 16000 * t.val + r.val; blk_simp; rw [e0]; show t.val * 16000 + r.val = _; omega
  | ⟨1, _⟩ => show ((win0_0.blk t).view.emb _ 1).val = l.val; blk_simp; rw [e1]; show 0 * 128 + l.val = _; omega

/-- The segment words point `t` of the first pass reads are the array's slab `t`. -/
theorem iblk0_1 (c : Dev nD) (t : Fin cfg0.N) (p : Fin 125) (l : Fin 128) (h : t.val < 20) :
    (iblk0 V c 1 t : Vec F S1x125x128 .i32) (ValueIdx.ix3 (0 : Fin 1) p l)
      = (V c main_call0_v0 : Vec F S20x125x128 .i32) (ValueIdx.ix3 (⟨t.val, h⟩ : Fin 20) p l) := by
  have e0 : win0_1.index t 0 = t.val := (by decide +kernel : ∀ t : Fin grid0.N, win0_1.index t 0 = t.val) t
  have e1 : win0_1.index t 1 = 0 := (by decide +kernel : ∀ t : Fin grid0.N, win0_1.index t 1 = 0) t
  have e2 : win0_1.index t 2 = 0 := (by decide +kernel : ∀ t : Fin grid0.N, win0_1.index t 2 = 0) t
  blk_simp [iblk0]
  congr 1; funext a; apply Fin.ext
  match a with
  | ⟨0, _⟩ => show ((win0_1.blk t).view.emb _ 0).val = t.val; blk_simp; rw [e0]
  | ⟨1, _⟩ => show ((win0_1.blk t).view.emb _ 1).val = p.val; blk_simp; rw [e1]; show 0 * 125 + p.val = _; omega
  | ⟨2, _⟩ => show ((win0_1.blk t).view.emb _ 2).val = l.val; blk_simp; rw [e2]; show 0 * 128 + l.val = _; omega

/-- Operand 2 of the first pass is read whole at every point. -/
theorem iblk0_2 (c : Dev nD) (t : Fin cfg0.N) : (iblk0 V c 2 t : Vec F S128x256 .bf16) = V c main_call0_v8 := by
  have e0 : win0_2.index t 0 = 0 := (by decide +kernel : ∀ t : Fin grid0.N, win0_2.index t 0 = 0) t
  have e1 : win0_2.index t 1 = 0 := (by decide +kernel : ∀ t : Fin grid0.N, win0_2.index t 1 = 0) t
  funext y
  blk_simp [iblk0]
  congr 1; funext a; apply Fin.ext
  match a with
  | ⟨0, _⟩ => show ((win0_2.blk t).view.emb y 0).val = (y 0).val; blk_simp; rw [e0]; omega
  | ⟨1, _⟩ => show ((win0_2.blk t).view.emb y 1).val = (y 1).val; blk_simp; rw [e1]; omega

/-- Operand 3 of the first pass is read whole at every point. -/
theorem iblk0_3 (c : Dev nD) (t : Fin cfg0.N) : (iblk0 V c 3 t : Vec F S1x256 .bf16) = V c main_call0_v13 := by
  have e0 : win0_3.index t 0 = 0 := (by decide +kernel : ∀ t : Fin grid0.N, win0_3.index t 0 = 0) t
  have e1 : win0_3.index t 1 = 0 := (by decide +kernel : ∀ t : Fin grid0.N, win0_3.index t 1 = 0) t
  funext y
  blk_simp [iblk0]
  congr 1; funext a; apply Fin.ext
  match a with
  | ⟨0, _⟩ => show ((win0_3.blk t).view.emb y 0).val = (y 0).val; blk_simp; rw [e0]
  | ⟨1, _⟩ => show ((win0_3.blk t).view.emb y 1).val = (y 1).val; blk_simp; rw [e1]; omega

/-- Operand 4 of the first pass is read whole at every point. -/
theorem iblk0_4 (c : Dev nD) (t : Fin cfg0.N) : (iblk0 V c 4 t : Vec F S128x1 .bf16) = V c main_call0_v14 := by
  have e0 : win0_4.index t 0 = 0 := (by decide +kernel : ∀ t : Fin grid0.N, win0_4.index t 0 = 0) t
  have e1 : win0_4.index t 1 = 0 := (by decide +kernel : ∀ t : Fin grid0.N, win0_4.index t 1 = 0) t
  funext y
  blk_simp [iblk0]
  congr 1; funext a; apply Fin.ext
  match a with
  | ⟨0, _⟩ => show ((win0_4.blk t).view.emb y 0).val = (y 0).val; blk_simp; rw [e0]; omega
  | ⟨1, _⟩ => show ((win0_4.blk t).view.emb y 1).val = (y 1).val; blk_simp; rw [e1]

/-- Operand 5 of the first pass is read whole at every point. -/
theorem iblk0_5 (c : Dev nD) (t : Fin cfg0.N) : (iblk0 V c 5 t : Vec F S1x1 .f32) = V c main_call0_v4 := by
  have e0 : win0_5.index t 0 = 0 := (by decide +kernel : ∀ t : Fin grid0.N, win0_5.index t 0 = 0) t
  have e1 : win0_5.index t 1 = 0 := (by decide +kernel : ∀ t : Fin grid0.N, win0_5.index t 1 = 0) t
  funext y
  blk_simp [iblk0]
  congr 1; funext a; apply Fin.ext
  match a with
  | ⟨0, _⟩ => show ((win0_5.blk t).view.emb y 0).val = (y 0).val; blk_simp; rw [e0]
  | ⟨1, _⟩ => show ((win0_5.blk t).view.emb y 1).val = (y 1).val; blk_simp; rw [e1]

/-- The block an input of the second pass reads is its whole array. -/
theorem iblk1_0 (c : Dev nD) (t : Fin cfg1.N) : (iblk1 V c 0 t : Vec F S2500x128 .f32) = V c main_call0_v16 := by
  funext y; blk_simp [iblk1]; congr 1; funext a; apply Fin.ext; blk_simp; show 0 * _ + _ = _; rw [Nat.zero_mul, Nat.zero_add]
theorem iblk1_1 (c : Dev nD) (t : Fin cfg1.N) : (iblk1 V c 1 t : Vec F S2500x128 .i32) = V c main_call0_v1 := by
  funext y; blk_simp [iblk1]; congr 1; funext a; apply Fin.ext; blk_simp; show 0 * _ + _ = _; rw [Nat.zero_mul, Nat.zero_add]
theorem iblk1_2 (c : Dev nD) (t : Fin cfg1.N) : (iblk1 V c 2 t : Vec F S16x1 .f32) = V c main_call0_v15_2 := by
  funext y; blk_simp [iblk1]; congr 1; funext a; apply Fin.ext; blk_simp; show 0 * _ + _ = _; rw [Nat.zero_mul, Nat.zero_add]
theorem iblk1_3 (c : Dev nD) (t : Fin cfg1.N) : (iblk1 V c 3 t : Vec F S1x1 .f32) = V c main_call0_v4 := by
  funext y; blk_simp [iblk1]; congr 1; funext a; apply Fin.ext; blk_simp; show 0 * _ + _ = _; rw [Nat.zero_mul, Nat.zero_add]

/-- The second pass leaves in its result what its one body leaves, of the four whole arrays it reads. -/
theorem final_attn (c : Dev nD) : (dat1 V c).arrAt 4 cfg1.N
    = out1_4 (V c main_call0_v16) (V c main_call0_v1) (V c main_call0_v15_2) (V c main_call0_v4) := by
  refine (dat1 V c).arrAt_eq_of_after_last 4 t1_0 (by decide +kernel) _ fun j => ?_
  blk_simp
  rw [after1_4, iblk1_0, iblk1_1, iblk1_2, iblk1_3]

end Cert.KernelIdeal.Arrays
-- ==== Proof.KHost.lean ====
module

public import proofs.«01_k».proof.Proof.KRead
public import proofs.«01_k».proof.Proof.KArrays
public import Idealize.ShloMosaic.Lib.IdealHost
public import Idealize.ShloMosaic.PureOps.Ideal.Laws

@[expose] public section

set_option maxRecDepth 16384

noncomputable section

/-! What the operations around the two passes hand to them, as arrays and, over the extended reals, read at an index. -/

namespace Cert.KernelIdeal.Host

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-- The batch words, one tile of rows per grid point. -/
theorem batch3 (c : Dev nD) : V1 m ρ c main_call0_v0
    = shapeCast S20x125x128 (m ((c.tc : Thread nD τ).loc main_arg1)) shapeCasts_S320000_S20x125x128 := by
  rfl

/-- The batch words in rows of 128. -/
theorem batch2 (c : Dev nD) : V1 m ρ c main_call0_v1
    = shapeCast S2500x128 (m ((c.tc : Thread nD τ).loc main_arg1)) shapeCasts_S320000_S2500x128 := by
  rfl

/-- The bound: the sum of the absolute attention weights. -/
theorem bound (c : Dev nD) : V1 m ρ c main_call0_v4
    = shapeCast S1x1 (Host.reduceAdd (Host.absf (m ((c.tc : Thread nD τ).loc main_arg6))) (constant S_ .f32 0x00000000#32) reducesTo_S128x1_S_d0_1 h_S_) shapeCasts_S_S1x1 := by
  rfl

/-- The value weights beside the halved gate weights. -/
theorem weights (c : Dev nD) : V1 m ρ c main_call0_v8
    = truncf .bf16 (concatenate S128x256 1 [⟨S128x128, m ((c.tc : Thread nD τ).loc main_arg2)⟩, ⟨S128x128, mulf (broadcastInDim S128x128 ![] bcast_S_S128x128 (constant S_ .f32 0x3F000000#32)) (m ((c.tc : Thread nD τ).loc main_arg4))⟩] concatenates_S128x128_S128x128_S128x256_d1) bitsLt_bf16_f32 := by
  rfl

/-- The value bias beside the halved gate bias. -/
theorem biases (c : Dev nD) : V1 m ρ c main_call0_v13
    = truncf .bf16 (shapeCast S1x256 (concatenate S256 0 [⟨S128, m ((c.tc : Thread nD τ).loc main_arg3)⟩, ⟨S128, mulf (broadcastInDim S128 ![] bcast_S_S128 (constant S_ .f32 0x3F000000#32)) (m ((c.tc : Thread nD τ).loc main_arg5))⟩] concatenates_S128_S128_S256_d0) shapeCasts_S256_S1x256) bitsLt_bf16_f32 := by
  rfl

/-- The attention weights. -/
theorem attnw (c : Dev nD) : V1 m ρ c main_call0_v14
    = truncf .bf16 (m ((c.tc : Thread nD τ).loc main_arg6)) bitsLt_bf16_f32 := by
  rfl

/-- The rows. -/
theorem rows (c : Dev nD) : V1 m ρ c main_arg0
    = m ((c.tc : Thread nD τ).loc main_arg0) := by
  rfl

section Reading
open Cert.PoolMath Cert.KernelIdeal.Read
open Idealize.ShloMosaic.ValueIdx (ix0 ix1 ix2 ix3 eq_ix1 eq_ix2 eq_ix3 sum_idx2)
open scoped BigOperators

/-- A list of rows cut into tiles of 125 lines of 128, read at a tile, a line and a place. -/
theorem tiles_apply {α : Type} (x : S320000.Idx → α) (t : Fin 20) (p : Fin 125) (l : Fin 128) :
    shapeCast S20x125x128 x shapeCasts_S320000_S20x125x128 (ix3 t p l)
      = x (ix1 (⟨16000 * t.val + p.val * 128 + l.val, by omega⟩ : Fin 320000)) := by
  refine shapeCast_apply _ _ _ _ ?_
  rw [Shape.rowMajor_val_one, Shape.rowMajor_val_three]
  show 16000 * t.val + p.val * 128 + l.val = (t.val * 125 + p.val) * 128 + l.val
  omega

/-- A list of rows cut into lines of 128, read at a line and a place. -/
theorem lines_apply {α : Type} (x : S320000.Idx → α) (q : Fin 2500) (l : Fin 128) :
    shapeCast S2500x128 x shapeCasts_S320000_S2500x128 (ix2 q l)
      = x (ix1 (⟨q.val * 128 + l.val, by omega⟩ : Fin 320000)) := by
  refine shapeCast_apply _ _ _ _ ?_
  rw [Shape.rowMajor_val_one, Shape.rowMajor_val_two]
  rfl

/-- The sum of absolute values of a column, as one number. -/
theorem absSum_apply (w : FVec Ideal S128x1 .f32) :
    shapeCast S1x1 (Host.reduceAdd (Host.absf w) (constant S_ .f32 0x00000000#32) reducesTo_S128x1_S_d0_1 h_S_) shapeCasts_S_S1x1 (ix2 0 0)
      = ∑ j : Fin 128, max (w (ix2 j 0)) (-(w (ix2 j 0))) := by
  refine (shapeCast_apply _ _ _ ix0 (by decide)).trans ?_
  refine (Ideal.hostReduceAdd_total reducesTo_S128x1_S_d0_1 (fun b => b.elim0) _ _ ix0).trans ?_
  rw [sum_idx2]
  show (Scalar.ofBits .f32 0x00000000#32 : Ideal .f32) + _ = _
  rw [lit_zero, zero_add]
  refine Finset.sum_congr rfl fun j _ => ?_
  exact Fin.sum_univ_one _

/-- The left half of the joined weights. -/
theorem join_left (a b : FVec Ideal S128x128 .f32) (k j : Fin 128) (h : j.val < 256) :
    truncf .bf16 (concatenate S128x256 1 [⟨S128x128, a⟩, ⟨S128x128, mulf (broadcastInDim S128x128 ![] bcast_S_S128x128 (constant S_ .f32 0x3F000000#32)) b⟩] concatenates_S128x128_S128x128_S128x256_d1) bitsLt_bf16_f32
      (ix2 k (⟨j.val, h⟩ : Fin 256)) = a (ix2 k j) :=
  concatenate_pair_apply_left (t := S128x256) (s₁ := S128x128) (s₂ := S128x128) 1 a _ concatenates_S128x128_S128x128_S128x256_d1 (ix2 k (⟨j.val, h⟩ : Fin 256)) rfl (ix2 k j) fun b => by
    match b with
    | ⟨0, _⟩ => rfl
    | ⟨1, _⟩ => rfl

/-- The right half of the joined weights: halved. -/
theorem join_right (a b : FVec Ideal S128x128 .f32) (k j : Fin 128) (h : 128 + j.val < 256) :
    truncf .bf16 (concatenate S128x256 1 [⟨S128x128, a⟩, ⟨S128x128, mulf (broadcastInDim S128x128 ![] bcast_S_S128x128 (constant S_ .f32 0x3F000000#32)) b⟩] concatenates_S128x128_S128x128_S128x256_d1) bitsLt_bf16_f32
      (ix2 k (⟨128 + j.val, h⟩ : Fin 256)) = half * b (ix2 k j) := by
  refine (concatenate_pair_apply_right (t := S128x256) (s₁ := S128x128) (s₂ := S128x128) 1 a _ concatenates_S128x128_S128x128_S128x256_d1 (ix2 k (⟨128 + j.val, h⟩ : Fin 256)) rfl rfl (ix2 k j) (fun b hb => ?_) ?_).trans ?_
  · match b with
    | ⟨0, _⟩ => rfl
    | ⟨1, _⟩ => exact absurd rfl hb
  · show j.val + 128 = 128 + j.val
    omega
  · refine congrArg (· * (b (ix2 k j) : EReal)) ?_
    exact lit_half

/-- The left half of the joined biases. -/
theorem joinBias_left (a b : FVec Ideal S128 .f32) (j : Fin 128) (h : j.val < 256) :
    truncf .bf16 (shapeCast S1x256 (concatenate S256 0 [⟨S128, a⟩, ⟨S128, mulf (broadcastInDim S128 ![] bcast_S_S128 (constant S_ .f32 0x3F000000#32)) b⟩] concatenates_S128_S128_S256_d0) shapeCasts_S256_S1x256) bitsLt_bf16_f32
      (ix2 0 (⟨j.val, h⟩ : Fin 256)) = a (ix1 j) := by
  refine (shapeCast_apply (concatenate S256 0 [⟨S128, a⟩, ⟨S128, mulf (broadcastInDim S128 ![] bcast_S_S128 (constant S_ .f32 0x3F000000#32)) b⟩] concatenates_S128_S128_S256_d0) shapeCasts_S256_S1x256 (ix2 0 (⟨j.val, h⟩ : Fin 256)) (ix1 (⟨j.val, h⟩ : Fin 256)) ?_).trans ?_
  · rw [Shape.rowMajor_val_one, Shape.rowMajor_val_two]
    show j.val = 0 * 256 + j.val
    omega
  · exact concatenate_pair_apply_left (t := S256) (s₁ := S128) (s₂ := S128) 0 a _ concatenates_S128_S128_S256_d0 (ix1 (⟨j.val, h⟩ : Fin 256)) rfl (ix1 j) fun b => by
      match b with
      | ⟨0, _⟩ => rfl

/-- The right half of the joined biases: halved. -/
theorem joinBias_right (a b : FVec Ideal S128 .f32) (j : Fin 128) (h : 128 + j.val < 256) :
    truncf .bf16 (shapeCast S1x256 (concatenate S256 0 [⟨S128, a⟩, ⟨S128, mulf (broadcastInDim S128 ![] bcast_S_S128 (constant S_ .f32 0x3F000000#32)) b⟩] concatenates_S128_S128_S256_d0) shapeCasts_S256_S1x256) bitsLt_bf16_f32
      (ix2 0 (⟨128 + j.val, h⟩ : Fin 256)) = half * b (ix1 j) := by
  refine (shapeCast_apply (concatenate S256 0 [⟨S128, a⟩, ⟨S128, mulf (broadcastInDim S128 ![] bcast_S_S128 (constant S_ .f32 0x3F000000#32)) b⟩] concatenates_S128_S128_S256_d0) shapeCasts_S256_S1x256 (ix2 0 (⟨128 + j.val, h⟩ : Fin 256)) (ix1 (⟨128 + j.val, h⟩ : Fin 256)) ?_).trans ?_
  · rw [Shape.rowMajor_val_one, Shape.rowMajor_val_two]
    show 128 + j.val = 0 * 256 + (128 + j.val)
    omega
  · refine (concatenate_pair_apply_right (t := S256) (s₁ := S128) (s₂ := S128) 0 a _ concatenates_S128_S128_S256_d0 (ix1 (⟨128 + j.val, h⟩ : Fin 256)) rfl rfl (ix1 j) (fun b hb => ?_) ?_).trans ?_
    · match b with
      | ⟨0, _⟩ => exact absurd rfl hb
    · show j.val + 128 = 128 + j.val
      omega
    · refine congrArg (· * (b (ix1 j) : EReal)) ?_
      exact lit_half

end Reading

end Cert.KernelIdeal.Host
-- ==== Proof.KTotal.lean ====
module

public import proofs.«01_k».proof.Proof.KHost

@[expose] public section

set_option maxRecDepth 16384

noncomputable section

/-! The first pass over all its tiles: the scores of all rows, and the segment sums over all rows. -/

namespace Cert.KernelIdeal.Total

open Cert.KernelIdeal Cert.KernelIdeal.Gen Cert.KernelIdeal.Blocks Cert.KernelIdeal.Arrays Cert.KernelIdeal.Read Cert.KernelIdeal.Host
open Cert.PoolMath
open Idealize.ShloMosaic Idealize.ShloMosaic.TcCoe
open Idealize.ShloMosaic.ValueIdx (ix0 ix1 ix2 ix3 eq_ix1 eq_ix2 eq_ix3)
open scoped BigOperators

/-- A sum over all rows is the sum over the tiles of the sums over each tile's rows. -/
theorem sum_tiles (f : Fin 320000 → EReal) :
    ∑ t : Fin 20, ∑ r : Fin 16000, f ⟨16000 * t.val + r.val, by omega⟩ = ∑ i, f i := by
  rw [← Fintype.sum_prod_type']
  refine Fintype.sum_equiv (finProdFinEquiv.trans (finCongr (by norm_num))) _ _ fun p => congrArg f (Fin.ext ?_)
  show 16000 * p.1.val + p.2.val = p.2.val + 16000 * p.1.val
  omega

variable (m : (ℓ : Loc nD τ sig) → Buf (Elt Ideal) ℓ) (ρ : Dev nD → PrngReg) (c : Dev nD)

/-- The rows. -/
abbrev X0 : S320000x128.Idx → EReal := m ((c.tc : Thread nD τ).loc main_arg0)
/-- The batch words. -/
abbrev X1 : S320000.Idx → BitVec 32 := m ((c.tc : Thread nD τ).loc main_arg1)
/-- The value weights. -/
abbrev X2 : S128x128.Idx → EReal := m ((c.tc : Thread nD τ).loc main_arg2)
/-- The value bias. -/
abbrev X3 : S128.Idx → EReal := m ((c.tc : Thread nD τ).loc main_arg3)
/-- The gate weights. -/
abbrev X4 : S128x128.Idx → EReal := m ((c.tc : Thread nD τ).loc main_arg4)
/-- The gate bias. -/
abbrev X5 : S128.Idx → EReal := m ((c.tc : Thread nD τ).loc main_arg5)
/-- The attention weights. -/
abbrev X6 : S128x1.Idx → EReal := m ((c.tc : Thread nD τ).loc main_arg6)

/-- The score of row `i`, from the arguments. -/
def A (i : Fin 320000) : EReal :=
  rowScore (fun k => X0 m c (ix2 i k)) (fun k j => X2 m c (ix2 k j)) (fun j => X3 m c (ix1 j)) (fun k j => X4 m c (ix2 k j))
    (fun j => X5 m c (ix1 j)) (fun j => X6 m c (ix2 j 0))
/-- The segment word of row `i`. -/
def seg (i : Fin 320000) : BitVec 32 := X1 m c (ix1 i)
/-- The bound subtracted from every score. -/
def W : EReal := ∑ j : Fin 128, max (X6 m c (ix2 j 0)) (-(X6 m c (ix2 j 0)))

/-- A tile's number is below 20. -/
theorem tile_lt (t : Fin cfg0.N) : t.val < 20 := lt_of_lt_of_eq t.isLt N_0

/-- The score the first pass computes for row `r` of tile `t`. -/
theorem tile_score (t : Fin cfg0.N) (r : Fin 16000) (h : 16000 * t.val + r.val < 320000) :
    score (iblk0 (V1 m ρ) c 0 t) (iblk0 (V1 m ρ) c 2 t) (iblk0 (V1 m ρ) c 3 t) (iblk0 (V1 m ρ) c 4 t) (ix2 (0 : Fin 1) r)
      = A m c ⟨16000 * t.val + r.val, h⟩ := by
  refine (score_apply _ _ _ _ r).trans ?_
  rw [iblk0_2, iblk0_3, iblk0_4]
  unfold A
  rw [← halved_score]
  refine Finset.sum_congr rfl fun j _ => ?_
  have ex : ∀ k : Fin 128, (iblk0 (V1 m ρ) c 0 t : Vec Ideal S16000x128 .f32) (ix2 r k) = X0 m c (ix2 (⟨16000 * t.val + r.val, h⟩ : Fin 320000) k) := fun k =>
    (iblk0_0 (V1 m ρ) c t r k h).trans (congrFun (rows m ρ c) _)
  have ewl : ∀ k : Fin 128, (V1 m ρ c main_call0_v8 : Vec Ideal S128x256 .bf16) (ix2 k (⟨j.val, by omega⟩ : Fin 256)) = X2 m c (ix2 k j) := fun k =>
    (congrFun (weights m ρ c) _).trans (join_left (X2 m c) (X4 m c) k j (by omega))
  have ewr : ∀ k : Fin 128, (V1 m ρ c main_call0_v8 : Vec Ideal S128x256 .bf16) (ix2 k (⟨128 + j.val, by omega⟩ : Fin 256)) = half * X4 m c (ix2 k j) := fun k =>
    (congrFun (weights m ρ c) _).trans (join_right (X2 m c) (X4 m c) k j (by omega))
  have ebl : (V1 m ρ c main_call0_v13 : Vec Ideal S1x256 .bf16) (ix2 (0 : Fin 1) (⟨j.val, by omega⟩ : Fin 256)) = X3 m c (ix1 j) :=
    (congrFun (biases m ρ c) _).trans (joinBias_left (X3 m c) (X5 m c) j (by omega))
  have ebr : (V1 m ρ c main_call0_v13 : Vec Ideal S1x256 .bf16) (ix2 (0 : Fin 1) (⟨128 + j.val, by omega⟩ : Fin 256)) = half * X5 m c (ix1 j) :=
    (congrFun (biases m ρ c) _).trans (joinBias_right (X3 m c) (X5 m c) j (by omega))
  have ew : (V1 m ρ c main_call0_v14 : Vec Ideal S128x1 .bf16) (ix2 j (0 : Fin 1)) = X6 m c (ix2 j 0) := congrFun (attnw m ρ c) _
  rw [ebl, ebr, ew]
  refine congrArg₂ (fun p q : EReal => X6 m c (ix2 j 0) * (Ideal.tanh (p + X3 m c (ix1 j)) * (half * Ideal.tanh (q + half * X5 m c (ix1 j)) + half))) ?_ ?_
  · exact Finset.sum_congr rfl fun k _ => congrArg₂ (fun a b : EReal => a * b) (ex k) (ewl k)
  · exact Finset.sum_congr rfl fun k _ => congrArg₂ (fun a b : EReal => a * b) (ex k) (ewr k)

/-- The weight the first pass gives row `r` of tile `t` in segment `s`. -/
theorem tile_weight (t : Fin cfg0.N) (s : Fin 16) (r : Fin 16000) (h : 16000 * t.val + r.val < 320000) :
    blkWt (iblk0 (V1 m ρ) c 0 t) (iblk0 (V1 m ρ) c 1 t) (iblk0 (V1 m ρ) c 2 t) (iblk0 (V1 m ρ) c 3 t) (iblk0 (V1 m ρ) c 4 t)
        (iblk0 (V1 m ρ) c 5 t) s r
      = wt (seg m c) (A m c) (W m c) (BitVec.ofNat 32 s.val) ⟨16000 * t.val + r.val, h⟩ := by
  unfold blkWt wt
  have e1 : (iblk0 (V1 m ρ) c 1 t : Vec Ideal S1x125x128 .i32) (ix3 (0 : Fin 1) (⟨r.val / 128, by omega⟩ : Fin 125) (⟨r.val % 128, by omega⟩ : Fin 128))
      = seg m c ⟨16000 * t.val + r.val, h⟩ := by
    refine (iblk0_1 (V1 m ρ) c t _ _ (tile_lt t)).trans ((congrFun (batch3 m ρ c) _).trans ((tiles_apply (X1 m c) _ _ _).trans ?_))
    refine congrArg (fun i => X1 m c (ix1 i)) (Fin.ext ?_)
    show 16000 * t.val + r.val / 128 * 128 + r.val % 128 = 16000 * t.val + r.val
    omega
  have e5 : (iblk0 (V1 m ρ) c 5 t : Vec Ideal S1x1 .f32) (ix2 (0 : Fin 1) (0 : Fin 1)) = W m c := by
    rw [iblk0_5]
    exact (congrFun (bound m ρ c) _).trans (absSum_apply (X6 m c))
  rw [e1, e5, tile_score m ρ c t r h]

/-- The contribution of tile `t` to a sum over all rows (nothing past the last tile). -/
def part (f : Fin 320000 → EReal) (t : ℕ) : EReal :=
  if h : t < 20 then ∑ r : Fin 16000, f ⟨16000 * t + r.val, by omega⟩ else 0

/-- All 20 contributions make the whole sum. -/
theorem parts (f : Fin 320000 → EReal) : ∑ t ∈ Finset.range 20, part f t = ∑ i, f i := by
  rw [← sum_tiles, Finset.sum_range]
  refine Finset.sum_congr rfl fun t _ => ?_
  unfold part
  rw [dif_pos t.isLt]

/-- The weight sums after tile `n`. -/
theorem densTo_apply (s : Fin 16) : ∀ (n : ℕ) (h : n < cfg0.N),
    densTo (V1 m ρ) c n h (ix2 s (0 : Fin 1))
      = ∑ t ∈ Finset.range (n + 1), part (wt (seg m c) (A m c) (W m c) (BitVec.ofNat 32 s.val)) t
  | 0, h => by
    unfold densTo
    refine (dens_apply _ _ _ _ _ _ _ s).trans ?_
    rw [Finset.sum_range_one, part, dif_pos (by norm_num), show (k0_pay6 (F := Ideal)) (ix2 s (0 : Fin 1)) = 0 from lit_zero, zero_add]
    exact Finset.sum_congr rfl fun r _ => tile_weight m ρ c ⟨0, h⟩ s r (by show 16000 * 0 + r.val < 320000; omega)
  | n + 1, h => by
    unfold densTo
    refine (dens_apply _ _ _ _ _ _ _ s).trans ?_
    rw [Finset.sum_range_succ, densTo_apply s n (Nat.lt_of_succ_lt h)]
    have h20 : n + 1 < 20 := tile_lt ⟨n + 1, h⟩
    refine congrArg (_ + ·) ?_
    rw [part, dif_pos h20]
    exact Finset.sum_congr rfl fun r _ => tile_weight m ρ c ⟨n + 1, h⟩ s r (by show 16000 * (n + 1) + r.val < 320000; omega)

/-- The weighted row sums after tile `n`. -/
theorem sumsTo_apply (s : Fin 16) (l : Fin 128) : ∀ (n : ℕ) (h : n < cfg0.N),
    sumsTo (V1 m ρ) c n h (ix2 s l)
      = ∑ t ∈ Finset.range (n + 1), part (fun i => wt (seg m c) (A m c) (W m c) (BitVec.ofNat 32 s.val) i * X0 m c (ix2 i l)) t
  | 0, h => by
    unfold sumsTo
    refine (sums_apply _ _ _ _ _ _ _ s l).trans ?_
    rw [Finset.sum_range_one, part, dif_pos (by norm_num), show (k0_pay5 (F := Ideal)) (ix2 s l) = 0 from lit_zero, zero_add]
    refine Finset.sum_congr rfl fun r _ => congrArg₂ (· * ·) (tile_weight m ρ c ⟨0, h⟩ s r (by show 16000 * 0 + r.val < 320000; omega)) ?_
    exact (iblk0_0 (V1 m ρ) c ⟨0, h⟩ r l (by show 16000 * 0 + r.val < 320000; omega)).trans (congrFun (rows m ρ c) _)
  | n + 1, h => by
    unfold sumsTo
    refine (sums_apply _ _ _ _ _ _ _ s l).trans ?_
    rw [Finset.sum_range_succ, sumsTo_apply s l n (Nat.lt_of_succ_lt h)]
    have h20 : n + 1 < 20 := tile_lt ⟨n + 1, h⟩
    refine congrArg (_ + ·) ?_
    rw [part, dif_pos h20]
    refine Finset.sum_congr rfl fun r _ => congrArg₂ (· * ·) (tile_weight m ρ c ⟨n + 1, h⟩ s r (by show 16000 * (n + 1) + r.val < 320000; omega)) ?_
    exact (iblk0_0 (V1 m ρ) c ⟨n + 1, h⟩ r l (by show 16000 * (n + 1) + r.val < 320000; omega)).trans (congrFun (rows m ρ c) _)

/-- The weight sums the first pass leaves are those over all rows. -/
theorem dens_total (s : Fin 16) :
    densTo (V1 m ρ) c 19 tLast.isLt (ix2 s (0 : Fin 1)) = kden (seg m c) (A m c) (W m c) (BitVec.ofNat 32 s.val) :=
  (densTo_apply m ρ c s 19 _).trans (parts _)

/-- The pooled rows the first pass leaves. -/
theorem pool_total (s : Fin 16) (l : Fin 128) :
    k0_pay4 (densTo (V1 m ρ) c 19 tLast.isLt) (sumsTo (V1 m ρ) c 19 tLast.isLt) (ix2 s l)
      = kpool (seg m c) (A m c) (W m c) (fun i => X0 m c (ix2 i l)) (BitVec.ofNat 32 s.val) := by
  refine (pool_apply _ _ s l).trans ?_
  rw [dens_total, sumsTo_apply, parts]
  rfl

/-- The score the first pass stores for row `l` of line `p` of tile `t`. -/
theorem scoresAt_apply (t : Fin cfg0.N) (p : Fin 125) (l : Fin 128) (h : 16000 * t.val + (p.val * 128 + l.val) < 320000) :
    scoresAt (V1 m ρ) c t (ix3 (0 : Fin 1) p l) = A m c ⟨16000 * t.val + (p.val * 128 + l.val), h⟩ := by
  unfold scoresAt
  exact (scoreBlk_apply _ _ _ _ p l).trans (tile_score m ρ c t ⟨p.val * 128 + l.val, by omega⟩ h)

end Cert.KernelIdeal.Total
-- ==== Proof.KValue.lean ====
module

public import proofs.«01_k».proof.Proof.KTotal

@[expose] public section

set_option maxRecDepth 16384

noncomputable section

/-! The kernel's two results, read at an index: the pooled rows and the attention weights. -/

namespace Cert.KernelIdeal.Total

open Cert.KernelIdeal Cert.KernelIdeal.Gen Cert.KernelIdeal.Blocks Cert.KernelIdeal.Arrays Cert.KernelIdeal.Read Cert.KernelIdeal.Host
open Cert.PoolMath
open Idealize.ShloMosaic Idealize.ShloMosaic.TcCoe
open Idealize.ShloMosaic.ValueIdx (ix0 ix1 ix2 ix3 eq_ix1 eq_ix2 eq_ix3)
open scoped BigOperators

variable (m : (ℓ : Loc nD τ sig) → Buf (Elt Ideal) ℓ) (ρ : Dev nD → PrngReg) (c : Dev nD)

/-- The first result at segment `s`, entry `l`: the rows pooled. -/
theorem pooled (s : Fin 16) (l : Fin 128) :
    (W5 m ρ c (Proc.devRef .tc main_v0_0) : Vec Ideal S16x128 .f32) (ix2 s l)
      = kpool (seg m c) (A m c) (W m c) (fun i => X0 m c (ix2 i l)) (BitVec.ofNat 32 s.val) := by
  have e : W5 m ρ c (Proc.devRef .tc main_v0_0) = k0_pay4 (densTo (V1 m ρ) c 19 tLast.isLt) (sumsTo (V1 m ρ) c 19 tLast.isLt) :=
    (W5_of m ρ c main_v0_0 (by decide)).trans ((W4_of_ne m ρ c main_v0_0 (by decide)).trans
      ((W3_of m ρ c main_v0_0 (by decide)).trans ((W2_arr m ρ c 7).trans (final_pool (V1 m ρ) c))))
  exact (congrFun e _).trans (pool_total m ρ c s l)

/-- The scores the second pass reads, in lines of 128. -/
theorem lines_score (q : Fin 2500) (l : Fin 128) (h : q.val * 128 + l.val < 320000) :
    (V3 m ρ c main_call0_v16 : Vec Ideal S2500x128 .f32) (ix2 q l) = A m c ⟨q.val * 128 + l.val, h⟩ := by
  have e : V3 m ρ c main_call0_v16 = shapeCast S2500x128 ((dat0 (V1 m ρ) c).arrAt 6 cfg0.N) shapeCasts_S20x125x128_S2500x128 := by
    rw [← W2_arr m ρ c 6]
    rfl
  rw [e, final_scores]
  refine (shapeCast_apply _ _ _ (ix3 (⟨q.val / 125, by omega⟩ : Fin 20) (⟨q.val % 125, by omega⟩ : Fin 125) l) ?_).trans ?_
  · rw [Shape.rowMajor_val_three, Shape.rowMajor_val_two]
    show (q.val / 125 * 125 + q.val % 125) * 128 + l.val = q.val * 128 + l.val
    omega
  · refine (scoresAt_apply m ρ c _ _ l (by show 16000 * (q.val / 125) + (q.val % 125 * 128 + l.val) < 320000; omega)).trans ?_
    refine congrArg (A m c) (Fin.ext ?_)
    show 16000 * (q.val / 125) + (q.val % 125 * 128 + l.val) = q.val * 128 + l.val
    omega

/-- The batch words the second pass reads, in lines of 128. -/
theorem lines_batch (q : Fin 2500) (l : Fin 128) (h : q.val * 128 + l.val < 320000) :
    (V3 m ρ c main_call0_v1 : Vec Ideal S2500x128 .i32) (ix2 q l) = seg m c ⟨q.val * 128 + l.val, h⟩ :=
  (congrFun ((W3_of m ρ c main_call0_v1 (by decide)).trans (W2_of_ne m ρ c main_call0_v1 (by decide))) _).trans
    ((congrFun (batch2 m ρ c) _).trans (lines_apply (X1 m c) q l))

/-- The weight sums the second pass reads. -/
theorem second_dens (s : Fin 16) :
    (V3 m ρ c main_call0_v15_2 : Vec Ideal S16x1 .f32) (ix2 s (0 : Fin 1)) = kden (seg m c) (A m c) (W m c) (BitVec.ofNat 32 s.val) :=
  (congrFun ((W3_of m ρ c main_call0_v15_2 (by decide)).trans ((W2_arr m ρ c 8).trans (final_dens (V1 m ρ) c))) _).trans (dens_total m ρ c s)

/-- The bound the second pass reads. -/
theorem second_bound : (V3 m ρ c main_call0_v4 : Vec Ideal S1x1 .f32) (ix2 (0 : Fin 1) (0 : Fin 1)) = W m c :=
  (congrFun ((W3_of m ρ c main_call0_v4 (by decide)).trans ((W2_arr m ρ c 5).trans (((dat0 (V1 m ρ) c).arrAt_in 5 rfl _).trans (A_eq0 (V1 m ρ) c 5)))) _).trans
    ((congrFun (bound m ρ c) _).trans (absSum_apply (X6 m c)))

/-- Lines of 128 written as one column, read at a row. -/
theorem column_apply {α : Type} (x : S2500x128.Idx → α) (i : Fin 320000) :
    shapeCast S320000x1 x shapeCasts_S2500x128_S320000x1 (ix2 i (0 : Fin 1))
      = x (ix2 (⟨i.val / 128, by omega⟩ : Fin 2500) (⟨i.val % 128, by omega⟩ : Fin 128)) := by
  refine shapeCast_apply _ _ _ _ ?_
  rw [Shape.rowMajor_val_two, Shape.rowMajor_val_two]
  show i.val / 128 * 128 + i.val % 128 = i.val * 1 + 0
  omega

/-- The attention weight the second pass leaves at place `l` of line `q`. -/
theorem attn_line (q : Fin 2500) (l : Fin 128) (h : q.val * 128 + l.val < 320000) (s : Fin 16)
    (hs : seg m c ⟨q.val * 128 + l.val, h⟩ = BitVec.ofNat 32 s.val) :
    out1_4 (F := Ideal) (V3 m ρ c main_call0_v16) (V3 m ρ c main_call0_v1) (V3 m ρ c main_call0_v15_2) (V3 m ρ c main_call0_v4) (ix2 q l)
      = kattn (seg m c) (A m c) (W m c) ⟨q.val * 128 + l.val, h⟩ := by
  refine (attn_apply _ _ _ _ _ s ((lines_batch m ρ c q l h).trans hs)).trans ?_
  unfold kattn
  rw [hs]
  exact congrArg₂ (fun a b : EReal => a * Ideal.div 1 b)
    (congrArg₂ (fun a b : EReal => Ideal.exp (a - b)) (lines_score m ρ c q l h) (second_bound m ρ c)) (second_dens m ρ c s)

/-- The second result is the second pass's lines written as one column. -/
theorem column (i : Fin 320000) :
    (W5 m ρ c (Proc.devRef .tc main_v0_1) : Vec Ideal S320000x1 .f32) (ix2 i (0 : Fin 1))
      = out1_4 (F := Ideal) (V3 m ρ c main_call0_v16) (V3 m ρ c main_call0_v1) (V3 m ρ c main_call0_v15_2) (V3 m ρ c main_call0_v4)
          (ix2 (⟨i.val / 128, by omega⟩ : Fin 2500) (⟨i.val % 128, by omega⟩ : Fin 128)) := by
  have e : W5 m ρ c (Proc.devRef .tc main_v0_1)
      = shapeCast S320000x1 (W4 m ρ c (Proc.devRef .tc main_call0_v17) : Vec Ideal S2500x128 .f32) shapeCasts_S2500x128_S320000x1 := rfl
  have e2 : W4 m ρ c (Proc.devRef .tc main_call0_v17) = _ := (W4_arr m ρ c 4).trans (final_attn (V3 m ρ) c)
  refine (congrFun e _).trans ((column_apply _ i).trans ?_)
  exact congrFun e2 _

/-- The second result at row `i`: its attention weight, when its batch word names a segment. -/
theorem attention (i : Fin 320000) (s : Fin 16) (hs : seg m c i = BitVec.ofNat 32 s.val) :
    (W5 m ρ c (Proc.devRef .tc main_v0_1) : Vec Ideal S320000x1 .f32) (ix2 i (0 : Fin 1)) = kattn (seg m c) (A m c) (W m c) i := by
  have hl : i.val / 128 * 128 + i.val % 128 < 320000 := by omega
  have hi : (⟨i.val / 128 * 128 + i.val % 128, hl⟩ : Fin 320000) = i := Fin.ext (Nat.div_add_mod' _ _)
  have h := attn_line m ρ c ⟨i.val / 128, by omega⟩ ⟨i.val % 128, by omega⟩ hl s ((congrArg (seg m c) hi).trans hs)
  exact (column m ρ c i).trans (h.trans (congrArg _ hi))

end Cert.KernelIdeal.Total
-- ==== Proof.RefScore.lean ====
module

public import proofs.«01_k».proof.Proof.Gen.ReferenceIdeal.Read
public import proofs.«01_k».proof.Proof.Math

@[expose] public section

noncomputable section

/-! The reference's scores: one per row, the row's attention score. -/

namespace Cert.ReferenceIdeal.Pool

open Idealize.ShloMosaic Cert.ReferenceIdeal Cert.ReferenceIdeal.Facts₀ Cert.ReferenceIdeal.Read Cert.PoolMath
open Idealize.ShloMosaic.ValueIdx (ix0 ix1 ix2 eq_ix1 eq_ix2)
open scoped BigOperators

variable [Cert.ReferenceIdeal.Facts]
variable (x0 : S320000x128.Idx → EReal) (x1 : S320000.Idx → BitVec 32) (x2 : S128x128.Idx → EReal) (x3 : S128.Idx → EReal)
  (x4 : S128x128.Idx → EReal) (x5 : S128.Idx → EReal) (x6 : S128x1.Idx → EReal)

/-- The score of row `i`, from the arguments. -/
def A (i : Fin 320000) : EReal :=
  rowScore (fun k => x0 (ix2 i k)) (fun k j => x2 (ix2 k j)) (fun j => x3 (ix1 j)) (fun k j => x4 (ix2 k j))
    (fun j => x5 (ix1 j)) (fun j => x6 (ix2 j 0))

/-- The literal one. -/
theorem lit_one : (FloatOps.ofBits .f32 0x3F800000#32 : Ideal .f32) = 1 := by
  show Ideal.ofBits .f32 0x3F800000#32 = _
  simp [Ideal.ofBits, Ideal.ieee, -EReal.coe_mul]; norm_num
/-- The literal zero. -/
theorem lit_zero : (FloatOps.ofBits .f32 0x00000000#32 : Ideal .f32) = 0 := by
  show Ideal.ofBits .f32 0x00000000#32 = _
  simp [Ideal.ofBits, Ideal.ieee, -EReal.coe_mul]
/-- The literal minus infinity. -/
theorem lit_bot : (FloatOps.ofBits .f32 0xFF800000#32 : Ideal .f32) = ⊥ := by
  show Ideal.ofBits .f32 0xFF800000#32 = _
  simp [Ideal.ofBits, Ideal.ieee, -EReal.coe_mul]

/-- The linear features of the values at row `i`, feature `j`. -/
theorem v3_apply (i : Fin 320000) (j : Fin 128) :
    val_main_v3 (F := Ideal) x0 x2 x3 (ix2 i j) = ∑ k : Fin 128, x0 (ix2 i k) * x2 (ix2 k j) + x3 (ix1 j) := by
  rw [val_main_v3_apply, val_main_v0_apply, val_main_v2_apply, val_main_v1_apply]
  refine congrArg₂ (· + ·) (Finset.sum_congr rfl fun k _ => congrArg₂ (· * ·) (congrArg x0 ?_) (congrArg x2 ?_)) (congrArg x3 ?_)
  · exact eq_ix2 _
  · exact eq_ix2 _
  · exact eq_ix1 _

/-- The linear features of the gate at row `i`, feature `j`. -/
theorem v8_apply (i : Fin 320000) (j : Fin 128) :
    val_main_v8 (F := Ideal) x0 x4 x5 (ix2 i j) = ∑ k : Fin 128, x0 (ix2 i k) * x4 (ix2 k j) + x5 (ix1 j) := by
  rw [val_main_v8_apply, val_main_v5_apply, val_main_v7_apply, val_main_v6_apply]
  refine congrArg₂ (· + ·) (Finset.sum_congr rfl fun k _ => congrArg₂ (· * ·) (congrArg x0 ?_) (congrArg x4 ?_)) (congrArg x5 ?_)
  · exact eq_ix2 _
  · exact eq_ix2 _
  · exact eq_ix1 _

/-- The gated features at row `i`, feature `j`. -/
theorem v15_apply (i : Fin 320000) (j : Fin 128) :
    val_main_v15 (F := Ideal) x0 x2 x3 x4 x5 (ix2 i j)
      = Ideal.tanh (∑ k : Fin 128, x0 (ix2 i k) * x2 (ix2 k j) + x3 (ix1 j)) * gate (∑ k : Fin 128, x0 (ix2 i k) * x4 (ix2 k j) + x5 (ix1 j)) := by
  rw [val_main_v15_apply, val_main_v4_apply, val_main_v14_apply, val_main_v13_apply, val_main_cst_0_apply, val_main_v12_apply,
    val_main_v11_apply, val_main_cst_apply, val_main_v10_apply, val_main_v9_apply, v3_apply, v8_apply, lit_one]
  rfl

/-- The reference's score of row `i`. -/
theorem v17_apply (i : Fin 320000) : val_main_v17 (F := Ideal) x0 x2 x3 x4 x5 x6 (ix1 i) = A x0 x2 x3 x4 x5 x6 i := by
  rw [val_main_v17_apply, val_main_v16_apply]
  unfold A rowScore
  refine Finset.sum_congr rfl fun j _ => ?_
  have e : lidx_main_v16 (idx_main_v17 (ix1 i)) j = ix2 i j :=
    (eq_ix2 _).trans (congrArg₂ ix2 (Fin.ext (Nat.div_one _)) rfl)
  have e2 : ridx_main_v16 (idx_main_v17 (ix1 i)) j = ix2 j 0 := eq_ix2 _
  rw [e, e2, v15_apply]

end Cert.ReferenceIdeal.Pool
-- ==== Proof.Landing.lean ====
module

public import proofs.«01_k».proof.Proof.Gen.ReferenceIdeal.Read
public import Idealize.ShloMosaic.Lib.StableHlo.Predicate

@[expose] public section

noncomputable section

/-! Where the reference's two scatters put an update: update row `i` lands in the segment its start index names. -/

namespace Cert.ReferenceIdeal.Landing

open Idealize.ShloMosaic Cert.ReferenceIdeal Cert.ReferenceIdeal.Facts₀ Idealize.ShloMosaic.ValueIdx

open scoped BigOperators

variable [Cert.ReferenceIdeal.Facts]

/-- A word below 16 read as an integer is segment `s` exactly when it is the word of `s`. -/
theorem toInt_eq_iff (b : BitVec 32) (s : Fin 16) : b.toInt = (s.val : Int) ↔ b = BitVec.ofNat 32 s.val := by
  constructor
  · intro h
    apply BitVec.eq_of_toInt_eq
    rw [h]
    exact ((by decide : ∀ s : Fin 16, (s.val : Int) = (BitVec.ofNat 32 s.val).toInt) s)
  · rintro rfl
    exact ((by decide : ∀ s : Fin 16, (BitVec.ofNat 32 s.val).toInt = (s.val : Int)) s)

/-- The segment a row of the weights' scatter starts at. -/
theorem start_row (i : Fin 320000) (idx : IVec S320000x1 32) :
    (scatter_S16_S320000x1_S320000_n_0_0_1).start (ix1 i) idx 0 = (idx (ix2 i 0)).toInt := by
  have h : (scatter_S16_S320000x1_S320000_n_0_0_1).siIdx (ix1 i) ⟨0, by decide⟩ = ix2 i 0 := by
    funext b
    match b with
    | ⟨0, _⟩ => rfl
    | ⟨1, _⟩ => rfl
  rw [← h]; rfl

/-- The segment a row of the weighted rows' scatter starts at. -/
theorem start_wide (i : Fin 320000) (l : Fin 128) (idx : IVec S320000x1 32) :
    (scatter_S16x128_S320000x1_S320000x128_1_0_0_1).start (ix2 i l) idx 0 = (idx (ix2 i 0)).toInt := by
  have h : (scatter_S16x128_S320000x1_S320000x128_1_0_0_1).siIdx (ix2 i l) ⟨0, by decide⟩ = ix2 i 0 := by
    funext b
    match b with
    | ⟨0, _⟩ => rfl
    | ⟨1, _⟩ => rfl
  rw [← h]; rfl

/-- Row `i` of the weights lands in segment `s` exactly when its start index is the word of `s`. -/
theorem lands_row (i : Fin 320000) (s : Fin 16) (idx : IVec S320000x1 32) :
    (scatter_S16_S320000x1_S320000_n_0_0_1).resultIdx? (ix1 i) idx = some (ix1 s) ↔ idx (ix2 i 0) = BitVec.ofNat 32 s.val := by
  rw [← toInt_eq_iff]
  have hst := start_row i idx
  have hw : (scatter_S16_S320000x1_S320000_n_0_0_1).window (ix1 i) 0 = 0 := by rfl
  have hs : s.val < 16 := s.isLt
  unfold ScatterDims.resultIdx?
  split
  · next h =>
    have h0 := h 0
    rw [hst, hw] at h0
    constructor
    · intro e
      have e0 := congrArg Fin.val (congrFun (Option.some.inj e) 0)
      change ((scatter_S16_S320000x1_S320000_n_0_0_1).start (ix1 i) idx 0 + (scatter_S16_S320000x1_S320000_n_0_0_1).window (ix1 i) 0).toNat = s.val at e0
      rw [hst, hw] at e0
      have := h0.1
      omega
    · intro e
      refine congrArg some (funext fun a => Fin.ext ?_)
      obtain rfl : a = 0 := Subsingleton.elim _ _
      change ((scatter_S16_S320000x1_S320000_n_0_0_1).start (ix1 i) idx 0 + (scatter_S16_S320000x1_S320000_n_0_0_1).window (ix1 i) 0).toNat = s.val
      rw [hst, hw, e]
      omega
  · next h =>
    constructor
    · intro e; cases e
    · intro e
      refine (h fun a => ?_).elim
      obtain rfl : a = 0 := Subsingleton.elim _ _
      rw [hst, hw, e]
      change (0 : Int) ≤ (s.val : Int) + ((0 : Nat) : Int) ∧ (s.val : Int) + ((0 : Nat) : Int) < ((16 : Nat) : Int)
      omega

/-- Entry `l` of row `i` lands at entry `c` of segment `s` exactly when its start index is the word of `s` and `l = c`. -/
theorem lands_wide (i : Fin 320000) (l : Fin 128) (s : Fin 16) (c : Fin 128) (idx : IVec S320000x1 32) :
    (scatter_S16x128_S320000x1_S320000x128_1_0_0_1).resultIdx? (ix2 i l) idx = some (ix2 s c)
      ↔ idx (ix2 i 0) = BitVec.ofNat 32 s.val ∧ l = c := by
  rw [← toInt_eq_iff]
  have hst := start_wide i l idx
  have hst1 : (scatter_S16x128_S320000x1_S320000x128_1_0_0_1).start (ix2 i l) idx 1 = 0 := by rfl
  have hw : (scatter_S16x128_S320000x1_S320000x128_1_0_0_1).window (ix2 i l) 0 = 0 := by rfl
  have hw1 : (scatter_S16x128_S320000x1_S320000x128_1_0_0_1).window (ix2 i l) 1 = l.val := by rfl
  have hs : s.val < 16 := s.isLt
  have hl : l.val < 128 := l.isLt
  unfold ScatterDims.resultIdx?
  split
  · next h =>
    have h0 := h 0
    rw [hst, hw] at h0
    constructor
    · intro e
      have e0 := congrArg Fin.val (congrFun (Option.some.inj e) 0)
      have e1 := congrArg Fin.val (congrFun (Option.some.inj e) 1)
      change ((scatter_S16x128_S320000x1_S320000x128_1_0_0_1).start (ix2 i l) idx 0 + (scatter_S16x128_S320000x1_S320000x128_1_0_0_1).window (ix2 i l) 0).toNat = s.val at e0
      change ((scatter_S16x128_S320000x1_S320000x128_1_0_0_1).start (ix2 i l) idx 1 + (scatter_S16x128_S320000x1_S320000x128_1_0_0_1).window (ix2 i l) 1).toNat = c.val at e1
      rw [hst, hw] at e0
      rw [hst1, hw1] at e1
      have := h0.1
      exact ⟨by omega, Fin.ext (by omega)⟩
    · rintro ⟨e, rfl⟩
      refine congrArg some (funext fun a => Fin.ext ?_)
      match a with
      | ⟨0, _⟩ =>
        change ((scatter_S16x128_S320000x1_S320000x128_1_0_0_1).start (ix2 i l) idx 0 + (scatter_S16x128_S320000x1_S320000x128_1_0_0_1).window (ix2 i l) 0).toNat = s.val
        rw [hst, hw, e]
        omega
      | ⟨1, _⟩ =>
        change ((scatter_S16x128_S320000x1_S320000x128_1_0_0_1).start (ix2 i l) idx 1 + (scatter_S16x128_S320000x1_S320000x128_1_0_0_1).window (ix2 i l) 1).toNat = l.val
        rw [hst1, hw1]
        omega
  · next h =>
    constructor
    · intro e; cases e
    · rintro ⟨e, rfl⟩
      refine (h fun a => ?_).elim
      match a with
      | ⟨0, _⟩ =>
        change 0 ≤ (scatter_S16x128_S320000x1_S320000x128_1_0_0_1).start (ix2 i l) idx 0 + ((scatter_S16x128_S320000x1_S320000x128_1_0_0_1).window (ix2 i l) 0 : Int) ∧ (scatter_S16x128_S320000x1_S320000x128_1_0_0_1).start (ix2 i l) idx 0 + ((scatter_S16x128_S320000x1_S320000x128_1_0_0_1).window (ix2 i l) 0 : Int) < ((16 : Nat) : Int)
        rw [hst, hw, e]
        omega
      | ⟨1, _⟩ =>
        change 0 ≤ (scatter_S16x128_S320000x1_S320000x128_1_0_0_1).start (ix2 i l) idx 1 + ((scatter_S16x128_S320000x1_S320000x128_1_0_0_1).window (ix2 i l) 1 : Int) ∧ (scatter_S16x128_S320000x1_S320000x128_1_0_0_1).start (ix2 i l) idx 1 + ((scatter_S16x128_S320000x1_S320000x128_1_0_0_1).window (ix2 i l) 1 : Int) < ((128 : Nat) : Int)
        rw [hst1, hw1]
        omega

/-- A rank-one index is its one coordinate. -/
def equiv1 : Fin 320000 ≃ S320000.Idx where
  toFun i := ix1 i
  invFun j := j 0
  left_inv _ := rfl
  right_inv j := (eq_ix1 j).symm

/-- The weights' scatter into segment `s`: the old entry plus the weights of the rows whose start index names `s`. -/
theorem scatter_row (x : S16.Idx → EReal) (idx : IVec S320000x1 32) (u : S320000.Idx → EReal) (s : Fin 16) :
    Ideal.hostScatterAdd scatter_S16_S320000x1_S320000_n_0_0_1 x idx u (ix1 s)
      = x (ix1 s) + ∑ i ∈ Finset.univ.filter (fun i : Fin 320000 => idx (ix2 i 0) = BitVec.ofNat 32 s.val), u (ix1 i) := by
  unfold Ideal.hostScatterAdd
  refine congrArg (_ + ·) ?_
  rw [Finset.sum_filter, Finset.sum_filter, ← equiv1.sum_comp]
  refine Finset.sum_congr rfl fun i _ => ?_
  exact if_congr (lands_row i s idx) rfl rfl

/-- The rows' scatter into entry `c` of segment `s`: the old entry plus that entry of the rows whose start index names `s`. -/
theorem scatter_wide (x : S16x128.Idx → EReal) (idx : IVec S320000x1 32) (u : S320000x128.Idx → EReal) (s : Fin 16) (c : Fin 128) :
    Ideal.hostScatterAdd scatter_S16x128_S320000x1_S320000x128_1_0_0_1 x idx u (ix2 s c)
      = x (ix2 s c) + ∑ i ∈ Finset.univ.filter (fun i : Fin 320000 => idx (ix2 i 0) = BitVec.ofNat 32 s.val), u (ix2 i c) := by
  unfold Ideal.hostScatterAdd
  refine congrArg (_ + ·) ?_
  rw [Finset.sum_filter, Finset.sum_filter, sum_idx2]
  refine Finset.sum_congr rfl fun i _ => ?_
  rw [Finset.sum_congr rfl fun l _ => if_congr (lands_wide i l s c idx) rfl rfl]
  by_cases h : idx (ix2 i 0) = BitVec.ofNat 32 s.val
  · simp [h]
  · simp [h]

/-- The gather of a segment table at a row whose start index is the word of `s` reads the table at `s`. -/
theorem gather_row {α : Type} (x : S16.Idx → α) (idx : IVec S320000x1 32) (i : Fin 320000) (s : Fin 16)
    (h : idx (ix2 i 0) = BitVec.ofNat 32 s.val) :
    Host.gather gather_S16_S320000x1_S320000_n_0_n_n_0_1_1 x idx (ix1 i) = x (ix1 s) := by
  have e : (ix1 i : S320000.Idx) = Shape.Idx.ofFin i := by
    funext a; obtain rfl : a = 0 := Subsingleton.elim _ _; rfl
  have e2 : (Idealize.ShloMosaic.StableHlo.Predicate.ixP i : S320000x1.Idx) = ix2 i 0 := by
    funext a
    match a with
    | ⟨0, _⟩ => rfl
    | ⟨1, _⟩ => rfl
  rw [e]
  refine (Idealize.ShloMosaic.StableHlo.Predicate.gather_take _ rfl rfl rfl rfl x idx i (by decide)).trans ?_
  refine congrArg x ?_
  funext a
  obtain rfl : a = 0 := Subsingleton.elim _ _
  apply Fin.ext
  show min (idx (Idealize.ShloMosaic.StableHlo.Predicate.ixP i)).toInt.toNat (16 - 1) = s.val
  rw [show idx (Idealize.ShloMosaic.StableHlo.Predicate.ixP i) = BitVec.ofNat 32 s.val from (congrArg idx e2).trans h, (toInt_eq_iff _ s).mpr rfl]
  have := s.isLt
  omega

end Cert.ReferenceIdeal.Landing
-- ==== Proof.RefPool.lean ====
module

public import proofs.«01_k».proof.Proof.RefScore
public import proofs.«01_k».proof.Proof.Landing

@[expose] public section

noncomputable section

/-! The reference's two results: the segment softmax of the scores, and the rows pooled by it. -/

namespace Cert.ReferenceIdeal.Pool

open Idealize.ShloMosaic Cert.ReferenceIdeal Cert.ReferenceIdeal.Facts₀ Cert.ReferenceIdeal.Read Cert.PoolMath
open Cert.ReferenceIdeal.Landing
open Idealize.ShloMosaic.ValueIdx (ix0 ix1 ix2 eq_ix1 eq_ix2)
open scoped BigOperators

variable [Cert.ReferenceIdeal.Facts]
variable (x0 : S320000x128.Idx → EReal) (x1 : S320000.Idx → BitVec 32) (x2 : S128x128.Idx → EReal) (x3 : S128.Idx → EReal)
  (x4 : S128x128.Idx → EReal) (x5 : S128.Idx → EReal) (x6 : S128x1.Idx → EReal)

/-- The segment word of row `i`. -/
def seg (i : Fin 320000) : BitVec 32 := x1 (ix1 i)

/-- The masked scores: row `i`'s score in its own segment's column, minus infinity in the others. -/
theorem v25_apply (i : Fin 320000) (s : Fin 16) :
    val_main_v25 (F := Ideal) x0 x1 x2 x3 x4 x5 x6 (ix2 i s)
      = if seg x1 i = BitVec.ofNat 32 s.val then A x0 x2 x3 x4 x5 x6 i else ⊥ := by
  rw [val_main_v25_apply, val_main_v23_apply, val_main_v21_apply, val_main_v19_apply, val_main_v22_apply, val_main_v20_apply,
    val_main_v18_apply, val_main_call0_v1_apply, val_main_v24_apply, val_main_call0_v2_apply, val_main_call0_v0_apply,
    val_main_cst_1_apply, lit_bot]
  rw [show idx_main_v24 (idx_main_call0_v1 (ix2 i s)) = ix1 i from eq_ix1 _, v17_apply,
    show idx_main_v19 (idx_main_v21 (ix2 i s)) = ix1 i from eq_ix1 _]
  show Scalar.select (IntOp.cmpi .eq (seg x1 i) (BitVec.ofNat 32 s.val)) _ _ = _
  by_cases h : seg x1 i = BitVec.ofNat 32 s.val
  · rw [if_pos h, h]; simp [IntOp.cmpi, Scalar.select]
  · rw [if_neg h]; simp [IntOp.cmpi, Scalar.select, beq_eq_false_iff_ne.mpr h]

instance : Std.Commutative (FloatOps.maximumf (F := Ideal) (φ := .f32)) := ⟨fun a b => max_comm (a : EReal) b⟩
instance : Std.Associative (FloatOps.maximumf (F := Ideal) (φ := .f32)) := ⟨fun a b c => max_assoc (a : EReal) b c⟩

/-- The maximum of segment `s`. -/
theorem v26_apply (s : Fin 16) :
    val_main_v26 (F := Ideal) x0 x1 x2 x3 x4 x5 x6 (ix1 s) = rmax (seg x1) (A x0 x2 x3 x4 x5 x6) (BitVec.ofNat 32 s.val) := by
  have hR : S320000x16.Reduces [0] S16 := by decide
  unfold val_main_v26
  refine (Host.reduce_eq_fold_single FloatOps.maximumf _ _ reducesTo_S320000x16_S16_d0 hR h_S_ (ix1 s)).trans ?_
  rw [val_main_cst_2_apply, lit_bot]
  unfold rmax
  refine Finset.fold_congr fun i _ => ?_
  show val_main_v25 (F := Ideal) x0 x1 x2 x3 x4 x5 x6 (hR.lift (ix1 s) i) = _
  rw [show hR.lift (ix1 s) i = ix2 i s from eq_ix2 _]
  exact v25_apply x0 x1 x2 x3 x4 x5 x6 i s

variable (seg16 : Fin 320000 → Fin 16) (hseg : ∀ i, seg x1 i = BitVec.ofNat 32 (seg16 i).val)
include hseg

/-- A segment word of the range passes the wrapping of negative indices unchanged. -/
theorem v31_apply (i : Fin 320000) : val_main_v31 (F := Ideal) x1 (ix1 i) = seg x1 i := by
  rw [val_main_v31_apply, val_main_v28_apply, val_main_v27_apply, val_main_c_apply]
  show Scalar.select (IntOp.cmpi .slt (seg x1 i) 0#32) _ (seg x1 i) = seg x1 i
  rw [hseg, (by decide : ∀ s : Fin 16, IntOp.cmpi .slt (BitVec.ofNat 32 s.val) 0#32 = 0#1) (seg16 i)]
  rfl

/-- The same for the second gather's indices. -/
theorem v43_apply (i : Fin 320000) : val_main_v43 (F := Ideal) x1 (ix1 i) = seg x1 i := v31_apply x1 seg16 hseg i

/-- The maximum gathered at row `i`: its own segment's. -/
theorem v33_apply (i : Fin 320000) :
    val_main_v33 (F := Ideal) x0 x1 x2 x3 x4 x5 x6 (ix1 i) = rmax (seg x1) (A x0 x2 x3 x4 x5 x6) (seg x1 i) := by
  unfold val_main_v33
  rw [gather_row _ _ i (seg16 i), v26_apply, hseg i]
  rw [val_main_v32_apply, show idx_main_v32 (ix2 i 0) = ix1 i from eq_ix1 _, v31_apply x1 seg16 hseg, hseg]

/-- The shifted exponential of row `i`. -/
theorem v35_apply (i : Fin 320000) :
    val_main_v35 (F := Ideal) x0 x1 x2 x3 x4 x5 x6 (ix1 i) = rexp (seg x1) (A x0 x2 x3 x4 x5 x6) i := by
  rw [val_main_v35_apply, val_main_v34_apply, v33_apply x0 x1 x2 x3 x4 x5 x6 seg16 hseg, v17_apply]
  rfl

/-- The sum of the shifted exponentials of segment `s`. -/
theorem v38_apply (s : Fin 16) :
    val_main_v38 (F := Ideal) x0 x1 x2 x3 x4 x5 x6 (ix1 s) = rden (seg x1) (A x0 x2 x3 x4 x5 x6) (BitVec.ofNat 32 s.val) := by
  unfold val_main_v38
  refine (scatter_row _ _ _ s).trans ?_
  rw [val_main_v36_apply, val_main_cst_4_apply, lit_zero, zero_add]
  unfold rden
  refine Finset.sum_congr (Finset.filter_congr fun i _ => ?_) fun i _ => v35_apply x0 x1 x2 x3 x4 x5 x6 seg16 hseg i
  rw [val_main_v37_apply, show idx_main_v37 (ix2 i 0) = ix1 i from eq_ix1 _]
  rfl

/-- The reference's attention weight of row `i`. -/
theorem v46_apply (i : Fin 320000) :
    val_main_v46 (F := Ideal) x0 x1 x2 x3 x4 x5 x6 (ix1 i) = rattn (seg x1) (A x0 x2 x3 x4 x5 x6) i := by
  have h45 : val_main_v45 (F := Ideal) x0 x1 x2 x3 x4 x5 x6 (ix1 i) = rden (seg x1) (A x0 x2 x3 x4 x5 x6) (seg x1 i) := by
    unfold val_main_v45
    rw [gather_row _ _ i (seg16 i), v38_apply x0 x1 x2 x3 x4 x5 x6 seg16 hseg, hseg i]
    rw [val_main_v44_apply, show idx_main_v44 (ix2 i 0) = ix1 i from eq_ix1 _, v43_apply x1 seg16 hseg, hseg]
  rw [val_main_v46_apply, v35_apply x0 x1 x2 x3 x4 x5 x6 seg16 hseg, h45]
  rfl

/-- The second result at row `i`: the attention weight. -/
theorem v47_apply (i : Fin 320000) :
    val_main_v47 (F := Ideal) x0 x1 x2 x3 x4 x5 x6 (ix2 i 0) = rattn (seg x1) (A x0 x2 x3 x4 x5 x6) i := by
  rw [val_main_v47_apply, show idx_main_v47 (ix2 i 0) = ix1 i from eq_ix1 _, v46_apply x0 x1 x2 x3 x4 x5 x6 seg16 hseg]

/-- The first result at segment `s`, entry `c`: the rows pooled by their attention weights. -/
theorem v52_apply (s : Fin 16) (c : Fin 128) :
    val_main_v52 (F := Ideal) x0 x1 x2 x3 x4 x5 x6 (ix2 s c)
      = rpool (seg x1) (A x0 x2 x3 x4 x5 x6) (fun i => x0 (ix2 i c)) (BitVec.ofNat 32 s.val) := by
  unfold val_main_v52
  refine (scatter_wide _ _ _ s c).trans ?_
  rw [val_main_v50_apply, val_main_cst_7_apply, lit_zero, zero_add]
  unfold rpool
  refine Finset.sum_congr (Finset.filter_congr fun i _ => ?_) fun i _ => ?_
  · rw [val_main_v51_apply, show idx_main_v51 (ix2 i 0) = ix1 i from eq_ix1 _]
    rfl
  · rw [val_main_v49_apply, val_main_v48_apply, show idx_main_v48 (ix2 i c) = ix2 i 0 from eq_ix2 _,
      v47_apply x0 x1 x2 x3 x4 x5 x6 seg16 hseg]
    rfl

end Cert.ReferenceIdeal.Pool
-- ==== Proof.Equation.lean ====
module

public import proofs.«01_k».proof.Proof.KValue
public import proofs.«01_k».proof.Proof.RefPool
public import proofs.«01_k».proof.Proof.Gen.ReferenceIdeal

@[expose] public section

set_option maxRecDepth 16384

noncomputable section

/-! The two programs' results are equal, when every batch word names a segment and every attention weight is a real. -/

namespace Cert.Equation

open Cert.KernelIdeal Cert.KernelIdeal.Gen Cert.KernelIdeal.Total
open Cert.PoolMath
open Cert.ReferenceIdeal.Read (val_main_v47 val_main_v52)
open Idealize.ShloMosaic Idealize.ShloMosaic.TcCoe
open Idealize.ShloMosaic.ValueIdx (ix1 ix2 eq_ix2)
open scoped BigOperators

variable (m : (ℓ : Loc nD τ sig) → Buf (Elt Ideal) ℓ) (ρ : Dev nD → PrngReg) (c : Dev nD)

/-- Every score is a real when the attention weights are. -/
theorem score_real (hw : ∀ j : Fin 128, ∃ r : ℝ, X6 m c (ix2 j 0) = r) (i : Fin 320000) : ∃ r : ℝ, A m c i = r :=
  rowScore_real _ _ _ _ _ _ hw

/-- The bound is a real when the attention weights are. -/
theorem bound_real (hw : ∀ j : Fin 128, ∃ r : ℝ, X6 m c (ix2 j 0) = r) : ∃ r : ℝ, W m c = r := by
  choose w hw using hw
  refine ⟨∑ j, max (w j) (-(w j)), ?_⟩
  rw [← sum_coe]
  refine Finset.sum_congr rfl fun j _ => ?_
  rw [hw j, ← EReal.coe_neg, ← EReal.coe_strictMono.monotone.map_max]

/-- The pooled rows agree. -/
theorem pooled_eq (hb : ∀ i : Fin 320000, ∃ s : Fin 16, X1 m c (ix1 i) = BitVec.ofNat 32 s.val)
    (hw : ∀ j : Fin 128, ∃ r : ℝ, X6 m c (ix2 j 0) = r) :
    (val_main_v52 (F := Ideal) (X0 m c) (X1 m c) (X2 m c) (X3 m c) (X4 m c) (X5 m c) (X6 m c) : Vec Ideal S16x128 .f32)
      = W5 m ρ c (Proc.devRef .tc main_v0_0) := by
  choose seg16 hseg using hb
  choose a ha using score_real m c hw
  obtain ⟨w, hW⟩ := bound_real m c hw
  funext ix
  rw [eq_ix2 ix]
  refine (Cert.ReferenceIdeal.Pool.v52_apply (X0 m c) (X1 m c) (X2 m c) (X3 m c) (X4 m c) (X5 m c) (X6 m c) seg16 hseg (ix 0) (ix 1)).trans ?_
  exact (pool_eq (seg m c) (A m c) (W m c) a w ha hW _ _).symm.trans (pooled m ρ c (ix 0) (ix 1)).symm

/-- The attention weights agree. -/
theorem attention_eq (hb : ∀ i : Fin 320000, ∃ s : Fin 16, X1 m c (ix1 i) = BitVec.ofNat 32 s.val)
    (hw : ∀ j : Fin 128, ∃ r : ℝ, X6 m c (ix2 j 0) = r) :
    (val_main_v47 (F := Ideal) (X0 m c) (X1 m c) (X2 m c) (X3 m c) (X4 m c) (X5 m c) (X6 m c) : Vec Ideal S320000x1 .f32)
      = W5 m ρ c (Proc.devRef .tc main_v0_1) := by
  choose seg16 hseg using hb
  choose a ha using score_real m c hw
  obtain ⟨w, hW⟩ := bound_real m c hw
  funext ix
  have e : ix = ix2 (ix 0) (0 : Fin 1) := (eq_ix2 ix).trans (congrArg (ix2 (ix 0)) (Subsingleton.elim (α := Fin 1) _ _))
  rw [e]
  refine (Cert.ReferenceIdeal.Pool.v47_apply (X0 m c) (X1 m c) (X2 m c) (X3 m c) (X4 m c) (X5 m c) (X6 m c) seg16 hseg (ix 0)).trans ?_
  exact (attn_eq (seg m c) (A m c) (W m c) a w ha hW _).symm.trans (attention m ρ c (ix 0) (seg16 (ix 0)) (hseg (ix 0))).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KRun
public import proofs.«01_k».proof.Proof.PreRead
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, ends with its arguments unchanged, and leaves every semaphore at zero. -/
theorem frame_kernel : Cert.quiescent_Kernel := fun m ρ _ => Cert.Kernel.Gen.frame m ρ

/-- The idealized kernel runs, ends with its arguments unchanged, and leaves every semaphore at zero. -/
theorem frame_ideal : Cert.quiescent_KernelIdeal := fun m ρ _ => Cert.KernelIdeal.Gen.frame m ρ

/-- The same of the idealized kernel on arguments in range. -/
theorem frame_ideal_in_range : Cert.quiescent_KernelIdeal_pre_in_range := fun m ρ _ => Cert.KernelIdeal.Gen.frame m ρ

/-- The reference runs, ends with its arguments unchanged; it has no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The same of the reference on arguments in range. -/
theorem frame_reference_in_range : Cert.quiescent_ReferenceIdeal_pre_in_range := fun m ρ _ =>
  frame_reference m ρ trivial

/-- On arguments in range the idealized kernel and the reference end with equal results, both of them. -/
theorem results_equal : Cert.algebraic_KernelIdeal_ReferenceIdeal_pre_in_range := by
  intro m ρ m' ρ' hpre hagree
  have hb : ∀ (c : Dev Cert.KernelIdeal.nD) (i : Fin 320000), ∃ s : Fin 16,
      Cert.KernelIdeal.Total.X1 m c (ValueIdx.ix1 i) = BitVec.ofNat 32 s.val :=
    fun c i => Cert.Pre_in_range.Read.batch_word _ _ _ _ _ _ _ (hpre c).1 i
  have hw : ∀ (c : Dev Cert.KernelIdeal.nD) (j : Fin 128), ∃ r : ℝ,
      Cert.KernelIdeal.Total.X6 m c (ValueIdx.ix2 j 0) = r :=
    fun c j => Cert.Pre_in_range.Read.weight_real _ _ _ _ _ _ _ (hpre c).2 j
  refine ⟨fun c => Cert.KernelIdeal.Gen.W5 m ρ c (Proc.devRef .tc Cert.KernelIdeal.main_v0_0),
    fun c => Cert.KernelIdeal.Gen.W5 m ρ c (Proc.devRef .tc Cert.KernelIdeal.main_v0_1),
    Cert.KernelIdeal.Results.run m ρ, ?_⟩
  refine (θ_run Cert.ReferenceIdeal.defs _ _).mono (fun r h c => ?_) (Cert.ReferenceIdeal.Value.run m' ρ')
  obtain ⟨h52, h47, hargs⟩ := h c
  obtain ⟨a0, a1, a2, a3, a4, a5, a6⟩ := hagree c
  refine ⟨?_, ?_, hargs⟩
  · refine (h52.trans (Cert.ReferenceIdeal.Read.val_main_v52_eq m' c)).trans ?_
    rw [a0, a1, a2, a3, a4, a5, a6]
    exact Cert.Equation.pooled_eq m ρ c (hb c) (hw c)
  · refine (h47.trans (Cert.ReferenceIdeal.Read.val_main_v47_eq m' c)).trans ?_
    rw [a0, a1, a2, a3, a4, a5, a6]
    exact Cert.Equation.attention_eq m ρ c (hb c) (hw c)

/-- Every claim. -/
theorem claim : Cert.Claim :=
  ⟨Cert.Kernel.Gen.facts, Cert.KernelIdeal.Gen.facts, Cert.ReferenceIdeal.Gen.facts, Cert.Pre_in_range.Read.facts,
    frame_kernel, frame_ideal, frame_ideal_in_range, frame_reference, frame_reference_in_range, trivial, results_equal⟩

end Cert.Proof

end
